-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 2] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  bcast_S_S512x4096 : S_.BroadcastsInDim S512x4096 (![] : Fin 0 → Fin S512x4096.rank)

variable [Facts]

def fn {F : FTy → Type} [FloatOps F] (main_arg0 : FVec F S256x512 .bf16) (main_arg1 : FVec F S512x4096 .bf16) : IVec S256x512 1 × IVec S512x4096 1 :=
  let main_v0 : FVec F S256x512 .bf16 := Host.absf main_arg0
  let main_cst : FVec F S_ .bf16 := constant S_ .bf16 0x7F80#16
  let main_v1 : FVec F S256x512 .bf16 := broadcastInDim S256x512 ![] bcast_S_S256x512 main_cst
  let main_v2 : IVec S256x512 1 := cmpf .olt main_v0 main_v1
  let main_v3 : FVec F S512x4096 .bf16 := Host.absf main_arg1
  let main_cst_0 : FVec F S_ .bf16 := constant S_ .bf16 0x7F80#16
  let main_v4 : FVec F S512x4096 .bf16 := broadcastInDim S512x4096 ![] bcast_S_S512x4096 main_cst_0
  let main_v5 : IVec S512x4096 1 := cmpf .olt main_v3 main_v4
  (main_v2, main_v5)
-- ==== Pre_finite_inputs_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  bcast_S_S512x8192 : S_.BroadcastsInDim S512x8192 (![] : Fin 0 → Fin S512x8192.rank)

variable [Facts]

def fn {F : FTy → Type} [FloatOps F] (main_arg0 : FVec F S256x512 .bf16) (main_arg1 : FVec F S512x8192 .bf16) : IVec S256x512 1 × IVec S512x8192 1 :=
  let main_v0 : FVec F S256x512 .bf16 := Host.absf main_arg0
  let main_cst : FVec F S_ .bf16 := constant S_ .bf16 0x7F80#16
  let main_v1 : FVec F S256x512 .bf16 := broadcastInDim S256x512 ![] bcast_S_S256x512 main_cst
  let main_v2 : IVec S256x512 1 := cmpf .olt main_v0 main_v1
  let main_v3 : FVec F S512x8192 .bf16 := Host.absf main_arg1
  let main_cst_0 : FVec F S_ .bf16 := constant S_ .bf16 0x7F80#16
  let main_v4 : FVec F S512x8192 .bf16 := broadcastInDim S512x8192 ![] bcast_S_S512x8192 main_cst_0
  let main_v5 : IVec S512x8192 1 := cmpf .olt main_v3 main_v4
  (main_v2, main_v5)
-- ==== Kernel.lean ====
abbrev S256x512 : Shape := ⟨2, ![256, 512]⟩
abbrev S512x4096 : Shape := ⟨2, ![512, 4096]⟩
abbrev S256x8192 : Shape := ⟨2, ![256, 8192]⟩
abbrev S4x4x2x256x128 : Shape := ⟨5, ![4, 4, 2, 256, 128]⟩
abbrev S2x256x8 : Shape := ⟨3, ![2, 256, 8]⟩
abbrev S4 : Shape := ⟨1, ![4]⟩
abbrev S2 : Shape := ⟨1, ![2]⟩
abbrev S2x4 : Shape := ⟨2, ![2, 4]⟩
abbrev S_ : Shape := ⟨0, ![]⟩
abbrev S256x1 : Shape := ⟨2, ![256, 1]⟩
abbrev S512x256 : Shape := ⟨2, ![512, 256]⟩
abbrev S256x256 : Shape := ⟨2, ![256, 256]⟩
abbrev S256x128 : Shape := ⟨2, ![256, 128]⟩
abbrev S1x1x1x256x128 : Shape := ⟨5, ![1, 1, 1, 256, 128]⟩
abbrev S256 : Shape := ⟨1, ![256]⟩
abbrev S1 : Shape := ⟨1, ![1]⟩
abbrev S1x1x2x256x128 : Shape := ⟨5, ![1, 1, 2, 256, 128]⟩
abbrev S2x256x128 : Shape := ⟨3, ![2, 256, 128]⟩
abbrev S512x1024 : Shape := ⟨2, ![512, 1024]⟩
abbrev S256x1024 : Shape := ⟨2, ![256, 1024]⟩
abbrev S256x8 : Shape := ⟨2, ![256, 8]⟩
abbrev S1x256x8 : Shape := ⟨3, ![1, 256, 8]⟩
abbrev S1x1 : Shape := ⟨2, ![1, 1]⟩
abbrev S1x256x1 : Shape := ⟨3, ![1, 256, 1]⟩

abbrev nBuf : Space → Nat
  | .hbm => 3
  | .vmem => 6
  | .smem => 0
  | _ => 0

abbrev bufTy : (tb : Table) → Fin (tcTables nBuf tb) → BufTy
  | .hbm, ⟨0, _⟩ => ⟨S256x512, .bf16⟩
  | .hbm, ⟨1, _⟩ => ⟨S512x4096, .bf16⟩
  | .hbm, ⟨2, _⟩ => ⟨S256x8192, .f32⟩
  | .local _ .vmem, ⟨0, _⟩ => ⟨S256x512, .bf16⟩
  | .local _ .vmem, ⟨1, _⟩ => ⟨S512x4096, .bf16⟩
  | .local _ .vmem, ⟨2, _⟩ => ⟨S256x8192, .f32⟩
  | .local _ .vmem, ⟨3, _⟩ => ⟨S4x4x2x256x128, .bf16⟩
  | .local _ .vmem, ⟨4, _⟩ => ⟨S4x4x2x256x128, .bf16⟩
  | .local _ .vmem, ⟨5, _⟩ => ⟨S2x256x8, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v28 : BitVec 32 := Scalar.muli v2 c4_i32_17
  let v29 : BitVec 32 := Scalar.addi c0_i32 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_19 : BitVec 32 := 1#32
  let v32 : BitVec 32 := Scalar.muli v9 c1_i32_19
  let v33 : BitVec 32 := Scalar.addi v31 v32
  v33.toNat
def k0_dev2 (d0 : Dev nD) : Nat :=
  let c0_i32_22 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_21 : BitVec 32 := 4#32
  let v34 : BitVec 32 := Scalar.muli v10 c4_i32_21
  let v35 : BitVec 32 := Scalar.addi c0_i32_22 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v36 : BitVec 32 := Scalar.muli v5 c2_i32_23
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v38 : BitVec 32 := Scalar.muli v8 c1_i32_24
  let v39 : BitVec 32 := Scalar.addi v37 v38
  v39.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_28 : BitVec 32 := 2#32
  let v42 : BitVec 32 := Scalar.muli v11 c2_i32_28
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v44 : BitVec 32 := Scalar.muli v8 c1_i32_29
  let v45 : BitVec 32 := Scalar.addi v43 v44
  v45.toNat
def k0_off1 (d0 : Dev nD) (c0_i32_31 : BitVec 32) : Fin 2 → Nat :=
  let c0_32 : Index := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c1024_i32 : BitVec 32 := 1024#32
  let v49 : BitVec 32 := Scalar.muli v13 c1024_i32
  let v50 : BitVec 32 := Scalar.addi v49 c0_i32_31
  let v51 : Index := Scalar.indexCast v50
  ![0, v51.toNat]
def k0_off2 (d0 : Dev nD) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v58 : Index := Scalar.indexCast v13
  let c0_34 : Index := 0#32
  let c0_35 : Index := 0#32
  let c0_36 : Index := 0#32
  let c0_37 : Index := 0#32
  ![v58.toNat, 0, 0, 0, 0]
def k0_off3 (d0 : Dev nD) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v63 : Index := Scalar.indexCast v13
  let c0_38 : Index := 0#32
  let c1 : Index := 1#32
  let c0_39 : Index := 0#32
  let c0_40 : Index := 0#32
  ![v63.toNat, 0, 1, 0, 0]
def k0_off4 (d0 : Dev nD) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c0_i32_43 : BitVec 32 := 0#32
  let c0_i32_50 : BitVec 32 := 0#32
  let c0_i32_51 : BitVec 32 := 0#32
  let c0_i32_52 : BitVec 32 := 0#32
  ![v13.toNat, 0, 0, 0, 0]
def k0_dev4 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v70 : BitVec 32 := Scalar.muli v2 c4_i32_46
  let v71 : BitVec 32 := Scalar.addi c0_i32_47 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v72 : BitVec 32 := Scalar.muli v5 c2_i32_48
  let v73 : BitVec 32 := Scalar.addi v71 v72
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_49 : BitVec 32 := 1#32
  let v74 : BitVec 32 := Scalar.muli v9 c1_i32_49
  let v75 : BitVec 32 := Scalar.addi v73 v74
  v75.toNat
def k0_off5 (d0 : Dev nD) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v93 : Index := Scalar.indexCast v13
  let c1_59 : Index := 1#32
  let c0_60 : Index := 0#32
  let c0_61 : Index := 0#32
  let c0_62 : Index := 0#32
  ![v93.toNat, 1, 0, 0, 0]
def k0_off6 (d0 : Dev nD) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v98 : Index := Scalar.indexCast v13
  let c1_63 : Index := 1#32
  let c1_64 : Index := 1#32
  let c0_65 : Index := 0#32
  let c0_66 : Index := 0#32
  ![v98.toNat, 1, 1, 0, 0]
def k0_off7 (d0 : Dev nD) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c1_i32_69 : BitVec 32 := 1#32
  let c0_i32_76 : BitVec 32 := 0#32
  let c0_i32_77 : BitVec 32 := 0#32
  let c0_i32_78 : BitVec 32 := 0#32
  ![v13.toNat, 1, 0, 0, 0]
def k0_dev5 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v105 : BitVec 32 := Scalar.muli v2 c4_i32_72
  let v106 : BitVec 32 := Scalar.addi c0_i32_73 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v107 : BitVec 32 := Scalar.muli v5 c2_i32_74
  let v108 : BitVec 32 := Scalar.addi v106 v107
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_75 : BitVec 32 := 1#32
  let v109 : BitVec 32 := Scalar.muli v9 c1_i32_75
  let v110 : BitVec 32 := Scalar.addi v108 v109
  v110.toNat
def k0_off8 (d0 : Dev nD) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v128 : Index := Scalar.indexCast v13
  let c2 : Index := 2#32
  let c0_85 : Index := 0#32
  let c0_86 : Index := 0#32
  let c0_87 : Index := 0#32
  ![v128.toNat, 2, 0, 0, 0]
def k0_off9 (d0 : Dev nD) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v133 : Index := Scalar.indexCast v13
  let c2_88 : Index := 2#32
  let c1_89 : Index := 1#32
  let c0_90 : Index := 0#32
  let c0_91 : Index := 0#32
  ![v133.toNat, 2, 1, 0, 0]
def k0_off10 (d0 : Dev nD) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c2_i32_94 : BitVec 32 := 2#32
  let c0_i32_101 : BitVec 32 := 0#32
  let c0_i32_102 : BitVec 32 := 0#32
  let c0_i32_103 : BitVec 32 := 0#32
  ![v13.toNat, 2, 0, 0, 0]
def k0_dev6 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v140 : BitVec 32 := Scalar.muli v2 c4_i32_97
  let v141 : BitVec 32 := Scalar.addi c0_i32_98 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v142 : BitVec 32 := Scalar.muli v5 c2_i32_99
  let v143 : BitVec 32 := Scalar.addi v141 v142
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_100 : BitVec 32 := 1#32
  let v144 : BitVec 32 := Scalar.muli v9 c1_i32_100
  let v145 : BitVec 32 := Scalar.addi v143 v144
  v145.toNat
def k0_off11 (d0 : Dev nD) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v163 : Index := Scalar.indexCast v13
  let c3 : Index := 3#32
  let c0_110 : Index := 0#32
  let c0_111 : Index := 0#32
  let c0_112 : Index := 0#32
  ![v163.toNat, 3, 0, 0, 0]
def k0_off12 (d0 : Dev nD) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v168 : Index := Scalar.indexCast v13
  let c3_113 : Index := 3#32
  let c1_114 : Index := 1#32
  let c0_115 : Index := 0#32
  let c0_116 : Index := 0#32
  ![v168.toNat, 3, 1, 0, 0]
def k0_off13 (d0 : Dev nD) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c3_i32_119 : BitVec 32 := 3#32
  let c0_i32_126 : BitVec 32 := 0#32
  let c0_i32_127 : BitVec 32 := 0#32
  let c0_i32_128 : BitVec 32 := 0#32
  ![v13.toNat, 3, 0, 0, 0]
def k0_dev7 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v175 : BitVec 32 := Scalar.muli v2 c4_i32_122
  let v176 : BitVec 32 := Scalar.addi c0_i32_123 v175
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_124 : BitVec 32 := 2#32
  let v177 : BitVec 32 := Scalar.muli v5 c2_i32_124
  let v178 : BitVec 32 := Scalar.addi v176 v177
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_125 : BitVec 32 := 1#32
  let v179 : BitVec 32 := Scalar.muli v9 c1_i32_125
  let v180 : BitVec 32 := Scalar.addi v178 v179
  v180.toNat
def k0_off14 (d0 : Dev nD) (c1_i32_132 : BitVec 32) : Fin 2 → Nat :=
  let c0_140 : Index := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v189 : BitVec 32 := Scalar.addi v13 c1_i32_132
  let c4_i32_133 : BitVec 32 := 4#32
  let c0_i32_134 : BitVec 32 := 0#32
  let v190 : BitVec 1 := Scalar.cmpi .eq c4_i32_133 c0_i32_134
  let c1_i32_135 : BitVec 32 := 1#32
  let v191 : BitVec 32 := Scalar.select v190 c1_i32_135 c4_i32_133
  let v192 : BitVec 32 := Scalar.remsi v189 v191
  let c0_i32_137 : BitVec 32 := 0#32
  let v194 : BitVec 1 := Scalar.cmpi .slt v192 c0_i32_137
  let c0_i32_138 : BitVec 32 := 0#32
  let v195 : BitVec 1 := Scalar.cmpi .slt v191 c0_i32_138
  let v196 : BitVec 1 := Scalar.xori v194 v195
  let c0_i32_136 : BitVec 32 := 0#32
  let v193 : BitVec 1 := Scalar.cmpi .ne v192 c0_i32_136
  let v197 : BitVec 1 := Scalar.andi v196 v193
  let v198 : BitVec 32 := Scalar.addi v192 v191
  let v199 : BitVec 32 := Scalar.select v197 v198 v192
  let c1024_i32_139 : BitVec 32 := 1024#32
  let v200 : BitVec 32 := Scalar.muli v199 c1024_i32_139
  let v201 : Index := Scalar.indexCast v200
  ![0, v201.toNat]
def k0_off15 (d0 : Dev nD) (c1_i32_132 : BitVec 32) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v189 : BitVec 32 := Scalar.addi v13 c1_i32_132
  let c4_i32_133 : BitVec 32 := 4#32
  let c0_i32_134 : BitVec 32 := 0#32
  let v190 : BitVec 1 := Scalar.cmpi .eq c4_i32_133 c0_i32_134
  let c1_i32_135 : BitVec 32 := 1#32
  let v191 : BitVec 32 := Scalar.select v190 c1_i32_135 c4_i32_133
  let v192 : BitVec 32 := Scalar.remsi v189 v191
  let c0_i32_137 : BitVec 32 := 0#32
  let v194 : BitVec 1 := Scalar.cmpi .slt v192 c0_i32_137
  let c0_i32_138 : BitVec 32 := 0#32
  let v195 : BitVec 1 := Scalar.cmpi .slt v191 c0_i32_138
  let v196 : BitVec 1 := Scalar.xori v194 v195
  let c0_i32_136 : BitVec 32 := 0#32
  let v193 : BitVec 1 := Scalar.cmpi .ne v192 c0_i32_136
  let v197 : BitVec 1 := Scalar.andi v196 v193
  let v198 : BitVec 32 := Scalar.addi v192 v191
  let v199 : BitVec 32 := Scalar.select v197 v198 v192
  let v208 : Index := Scalar.indexCast v199
  let c0_142 : Index := 0#32
  let c0_143 : Index := 0#32
  let c0_144 : Index := 0#32
  let c0_145 : Index := 0#32
  ![v208.toNat, 0, 0, 0, 0]
def k0_off16 (d0 : Dev nD) (c1_i32_132 : BitVec 32) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v189 : BitVec 32 := Scalar.addi v13 c1_i32_132
  let c4_i32_133 : BitVec 32 := 4#32
  let c0_i32_134 : BitVec 32 := 0#32
  let v190 : BitVec 1 := Scalar.cmpi .eq c4_i32_133 c0_i32_134
  let c1_i32_135 : BitVec 32 := 1#32
  let v191 : BitVec 32 := Scalar.select v190 c1_i32_135 c4_i32_133
  let v192 : BitVec 32 := Scalar.remsi v189 v191
  let c0_i32_137 : BitVec 32 := 0#32
  let v194 : BitVec 1 := Scalar.cmpi .slt v192 c0_i32_137
  let c0_i32_138 : BitVec 32 := 0#32
  let v195 : BitVec 1 := Scalar.cmpi .slt v191 c0_i32_138
  let v196 : BitVec 1 := Scalar.xori v194 v195
  let c0_i32_136 : BitVec 32 := 0#32
  let v193 : BitVec 1 := Scalar.cmpi .ne v192 c0_i32_136
  let v197 : BitVec 1 := Scalar.andi v196 v193
  let v198 : BitVec 32 := Scalar.addi v192 v191
  let v199 : BitVec 32 := Scalar.select v197 v198 v192
  let v213 : Index := Scalar.indexCast v199
  let c0_146 : Index := 0#32
  let c1_147 : Index := 1#32
  let c0_148 : Index := 0#32
  let c0_149 : Index := 0#32
  ![v213.toNat, 0, 1, 0, 0]
def k0_off17 (d0 : Dev nD) (c1_i32_132 : BitVec 32) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v189 : BitVec 32 := Scalar.addi v13 c1_i32_132
  let c4_i32_133 : BitVec 32 := 4#32
  let c0_i32_134 : BitVec 32 := 0#32
  let v190 : BitVec 1 := Scalar.cmpi .eq c4_i32_133 c0_i32_134
  let c1_i32_135 : BitVec 32 := 1#32
  let v191 : BitVec 32 := Scalar.select v190 c1_i32_135 c4_i32_133
  let v192 : BitVec 32 := Scalar.remsi v189 v191
  let c0_i32_137 : BitVec 32 := 0#32
  let v194 : BitVec 1 := Scalar.cmpi .slt v192 c0_i32_137
  let c0_i32_138 : BitVec 32 := 0#32
  let v195 : BitVec 1 := Scalar.cmpi .slt v191 c0_i32_138
  let v196 : BitVec 1 := Scalar.xori v194 v195
  let c0_i32_136 : BitVec 32 := 0#32
  let v193 : BitVec 1 := Scalar.cmpi .ne v192 c0_i32_136
  let v197 : BitVec 1 := Scalar.andi v196 v193
  let v198 : BitVec 32 := Scalar.addi v192 v191
  let v199 : BitVec 32 := Scalar.select v197 v198 v192
  let v218 : Index := Scalar.indexCast v199
  let c1_150 : Index := 1#32
  let c0_151 : Index := 0#32
  let c0_152 : Index := 0#32
  let c0_153 : Index := 0#32
  ![v218.toNat, 1, 0, 0, 0]
def k0_off18 (d0 : Dev nD) (c1_i32_132 : BitVec 32) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v189 : BitVec 32 := Scalar.addi v13 c1_i32_132
  let c4_i32_133 : BitVec 32 := 4#32
  let c0_i32_134 : BitVec 32 := 0#32
  let v190 : BitVec 1 := Scalar.cmpi .eq c4_i32_133 c0_i32_134
  let c1_i32_135 : BitVec 32 := 1#32
  let v191 : BitVec 32 := Scalar.select v190 c1_i32_135 c4_i32_133
  let v192 : BitVec 32 := Scalar.remsi v189 v191
  let c0_i32_137 : BitVec 32 := 0#32
  let v194 : BitVec 1 := Scalar.cmpi .slt v192 c0_i32_137
  let c0_i32_138 : BitVec 32 := 0#32
  let v195 : BitVec 1 := Scalar.cmpi .slt v191 c0_i32_138
  let v196 : BitVec 1 := Scalar.xori v194 v195
  let c0_i32_136 : BitVec 32 := 0#32
  let v193 : BitVec 1 := Scalar.cmpi .ne v192 c0_i32_136
  let v197 : BitVec 1 := Scalar.andi v196 v193
  let v198 : BitVec 32 := Scalar.addi v192 v191
  let v199 : BitVec 32 := Scalar.select v197 v198 v192
  let v223 : Index := Scalar.indexCast v199
  let c1_154 : Index := 1#32
  let c1_155 : Index := 1#32
  let c0_156 : Index := 0#32
  let c0_157 : Index := 0#32
  ![v223.toNat, 1, 1, 0, 0]
def k0_off19 (d0 : Dev nD) (c1_i32_132 : BitVec 32) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v189 : BitVec 32 := Scalar.addi v13 c1_i32_132
  let c4_i32_133 : BitVec 32 := 4#32
  let c0_i32_134 : BitVec 32 := 0#32
  let v190 : BitVec 1 := Scalar.cmpi .eq c4_i32_133 c0_i32_134
  let c1_i32_135 : BitVec 32 := 1#32
  let v191 : BitVec 32 := Scalar.select v190 c1_i32_135 c4_i32_133
  let v192 : BitVec 32 := Scalar.remsi v189 v191
  let c0_i32_137 : BitVec 32 := 0#32
  let v194 : BitVec 1 := Scalar.cmpi .slt v192 c0_i32_137
  let c0_i32_138 : BitVec 32 := 0#32
  let v195 : BitVec 1 := Scalar.cmpi .slt v191 c0_i32_138
  let v196 : BitVec 1 := Scalar.xori v194 v195
  let c0_i32_136 : BitVec 32 := 0#32
  let v193 : BitVec 1 := Scalar.cmpi .ne v192 c0_i32_136
  let v197 : BitVec 1 := Scalar.andi v196 v193
  let v198 : BitVec 32 := Scalar.addi v192 v191
  let v199 : BitVec 32 := Scalar.select v197 v198 v192
  let v228 : Index := Scalar.indexCast v199
  let c2_158 : Index := 2#32
  let c0_159 : Index := 0#32
  let c0_160 : Index := 0#32
  let c0_161 : Index := 0#32
  ![v228.toNat, 2, 0, 0, 0]
def k0_off20 (d0 : Dev nD) (c1_i32_132 : BitVec 32) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v189 : BitVec 32 := Scalar.addi v13 c1_i32_132
  let c4_i32_133 : BitVec 32 := 4#32
  let c0_i32_134 : BitVec 32 := 0#32
  let v190 : BitVec 1 := Scalar.cmpi .eq c4_i32_133 c0_i32_134
  let c1_i32_135 : BitVec 32 := 1#32
  let v191 : BitVec 32 := Scalar.select v190 c1_i32_135 c4_i32_133
  let v192 : BitVec 32 := Scalar.remsi v189 v191
  let c0_i32_137 : BitVec 32 := 0#32
  let v194 : BitVec 1 := Scalar.cmpi .slt v192 c0_i32_137
  let c0_i32_138 : BitVec 32 := 0#32
  let v195 : BitVec 1 := Scalar.cmpi .slt v191 c0_i32_138
  let v196 : BitVec 1 := Scalar.xori v194 v195
  let c0_i32_136 : BitVec 32 := 0#32
  let v193 : BitVec 1 := Scalar.cmpi .ne v192 c0_i32_136
  let v197 : BitVec 1 := Scalar.andi v196 v193
  let v198 : BitVec 32 := Scalar.addi v192 v191
  let v199 : BitVec 32 := Scalar.select v197 v198 v192
  let v233 : Index := Scalar.indexCast v199
  let c2_162 : Index := 2#32
  let c1_163 : Index := 1#32
  let c0_164 : Index := 0#32
  let c0_165 : Index := 0#32
  ![v233.toNat, 2, 1, 0, 0]
def k0_off21 (d0 : Dev nD) (c1_i32_132 : BitVec 32) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v189 : BitVec 32 := Scalar.addi v13 c1_i32_132
  let c4_i32_133 : BitVec 32 := 4#32
  let c0_i32_134 : BitVec 32 := 0#32
  let v190 : BitVec 1 := Scalar.cmpi .eq c4_i32_133 c0_i32_134
  let c1_i32_135 : BitVec 32 := 1#32
  let v191 : BitVec 32 := Scalar.select v190 c1_i32_135 c4_i32_133
  let v192 : BitVec 32 := Scalar.remsi v189 v191
  let c0_i32_137 : BitVec 32 := 0#32
  let v194 : BitVec 1 := Scalar.cmpi .slt v192 c0_i32_137
  let c0_i32_138 : BitVec 32 := 0#32
  let v195 : BitVec 1 := Scalar.cmpi .slt v191 c0_i32_138
  let v196 : BitVec 1 := Scalar.xori v194 v195
  let c0_i32_136 : BitVec 32 := 0#32
  let v193 : BitVec 1 := Scalar.cmpi .ne v192 c0_i32_136
  let v197 : BitVec 1 := Scalar.andi v196 v193
  let v198 : BitVec 32 := Scalar.addi v192 v191
  let v199 : BitVec 32 := Scalar.select v197 v198 v192
  let v238 : Index := Scalar.indexCast v199
  let c3_166 : Index := 3#32
  let c0_167 : Index := 0#32
  let c0_168 : Index := 0#32
  let c0_169 : Index := 0#32
  ![v238.toNat, 3, 0, 0, 0]
def k0_off22 (d0 : Dev nD) (c1_i32_132 : BitVec 32) : Fin 5 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v189 : BitVec 32 := Scalar.addi v13 c1_i32_132
  let c4_i32_133 : BitVec 32 := 4#32
  let c0_i32_134 : BitVec 32 := 0#32
  let v190 : BitVec 1 := Scalar.cmpi .eq c4_i32_133 c0_i32_134
  let c1_i32_135 : BitVec 32 := 1#32
  let v191 : BitVec 32 := Scalar.select v190 c1_i32_135 c4_i32_133
  let v192 : BitVec 32 := Scalar.remsi v189 v191
  let c0_i32_137 : BitVec 32 := 0#32
  let v194 : BitVec 1 := Scalar.cmpi .slt v192 c0_i32_137
  let c0_i32_138 : BitVec 32 := 0#32
  let v195 : BitVec 1 := Scalar.cmpi .slt v191 c0_i32_138
  let v196 : BitVec 1 := Scalar.xori v194 v195
  let c0_i32_136 : BitVec 32 := 0#32
  let v193 : BitVec 1 := Scalar.cmpi .ne v192 c0_i32_136
  let v197 : BitVec 1 := Scalar.andi v196 v193
  let v198 : BitVec 32 := Scalar.addi v192 v191
  let v199 : BitVec 32 := Scalar.select v197 v198 v192
  let v243 : Index := Scalar.indexCast v199
  let c3_170 : Index := 3#32
  let c1_171 : Index := 1#32
  let c0_172 : Index := 0#32
  let c0_173 : Index := 0#32
  ![v243.toNat, 3, 1, 0, 0]
def k0_dev8 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v377 : BitVec 32 := Scalar.muli v2 c4_i32_268
  let v378 : BitVec 32 := Scalar.addi c0_i32_269 v377
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v379 : BitVec 32 := Scalar.muli v5 c2_i32_270
  let v380 : BitVec 32 := Scalar.addi v378 v379
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_271 : BitVec 32 := 1#32
  let v381 : BitVec 32 := Scalar.muli v9 c1_i32_271
  let v382 : BitVec 32 := Scalar.addi v380 v381
  v382.toNat
def k0_dev9 (d0 : Dev nD) : Nat :=
  let c0_i32_297 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_296 : BitVec 32 := 4#32
  let v403 : BitVec 32 := Scalar.muli v10 c4_i32_296
  let v404 : BitVec 32 := Scalar.addi c0_i32_297 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_298 : BitVec 32 := 2#32
  let v405 : BitVec 32 := Scalar.muli v5 c2_i32_298
  let v406 : BitVec 32 := Scalar.addi v404 v405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_299 : BitVec 32 := 1#32
  let v407 : BitVec 32 := Scalar.muli v8 c1_i32_299
  let v408 : BitVec 32 := Scalar.addi v406 v407
  v408.toNat
def k0_dev10 (d0 : Dev nD) : Nat :=
  let c0_i32_313 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_312 : BitVec 32 := 4#32
  let v417 : BitVec 32 := Scalar.muli v2 c4_i32_312
  let v418 : BitVec 32 := Scalar.addi c0_i32_313 v417
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_314 : BitVec 32 := 2#32
  let v419 : BitVec 32 := Scalar.muli v11 c2_i32_314
  let v420 : BitVec 32 := Scalar.addi v418 v419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_315 : BitVec 32 := 1#32
  let v421 : BitVec 32 := Scalar.muli v8 c1_i32_315
  let v422 : BitVec 32 := Scalar.addi v420 v421
  v422.toNat
def k0_dev11 (d0 : Dev nD) : Nat :=
  let c0_i32_343 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_342 : BitVec 32 := 4#32
  let v443 : BitVec 32 := Scalar.muli v10 c4_i32_342
  let v444 : BitVec 32 := Scalar.addi c0_i32_343 v443
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_344 : BitVec 32 := 2#32
  let v445 : BitVec 32 := Scalar.muli v5 c2_i32_344
  let v446 : BitVec 32 := Scalar.addi v444 v445
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_345 : BitVec 32 := 1#32
  let v447 : BitVec 32 := Scalar.muli v8 c1_i32_345
  let v448 : BitVec 32 := Scalar.addi v446 v447
  v448.toNat
def k0_dev12 (d0 : Dev nD) : Nat :=
  let c0_i32_359 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_358 : BitVec 32 := 4#32
  let v457 : BitVec 32 := Scalar.muli v2 c4_i32_358
  let v458 : BitVec 32 := Scalar.addi c0_i32_359 v457
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_360 : BitVec 32 := 2#32
  let v459 : BitVec 32 := Scalar.muli v11 c2_i32_360
  let v460 : BitVec 32 := Scalar.addi v458 v459
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_361 : BitVec 32 := 1#32
  let v461 : BitVec 32 := Scalar.muli v8 c1_i32_361
  let v462 : BitVec 32 := Scalar.addi v460 v461
  v462.toNat
def k0_dev13 (d0 : Dev nD) : Nat :=
  let c0_i32_389 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_388 : BitVec 32 := 4#32
  let v483 : BitVec 32 := Scalar.muli v10 c4_i32_388
  let v484 : BitVec 32 := Scalar.addi c0_i32_389 v483
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_390 : BitVec 32 := 2#32
  let v485 : BitVec 32 := Scalar.muli v5 c2_i32_390
  let v486 : BitVec 32 := Scalar.addi v484 v485
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_391 : BitVec 32 := 1#32
  let v487 : BitVec 32 := Scalar.muli v8 c1_i32_391
  let v488 : BitVec 32 := Scalar.addi v486 v487
  v488.toNat
def k0_dev14 (d0 : Dev nD) : Nat :=
  let c0_i32_405 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_404 : BitVec 32 := 4#32
  let v497 : BitVec 32 := Scalar.muli v2 c4_i32_404
  let v498 : BitVec 32 := Scalar.addi c0_i32_405 v497
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_406 : BitVec 32 := 2#32
  let v499 : BitVec 32 := Scalar.muli v11 c2_i32_406
  let v500 : BitVec 32 := Scalar.addi v498 v499
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_407 : BitVec 32 := 1#32
  let v501 : BitVec 32 := Scalar.muli v8 c1_i32_407
  let v502 : BitVec 32 := Scalar.addi v500 v501
  v502.toNat
def k0_dev15 (d0 : Dev nD) : Nat :=
  let c0_i32_435 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_434 : BitVec 32 := 4#32
  let v523 : BitVec 32 := Scalar.muli v10 c4_i32_434
  let v524 : BitVec 32 := Scalar.addi c0_i32_435 v523
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_436 : BitVec 32 := 2#32
  let v525 : BitVec 32 := Scalar.muli v5 c2_i32_436
  let v526 : BitVec 32 := Scalar.addi v524 v525
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_437 : BitVec 32 := 1#32
  let v527 : BitVec 32 := Scalar.muli v8 c1_i32_437
  let v528 : BitVec 32 := Scalar.addi v526 v527
  v528.toNat
def k0_dev16 (d0 : Dev nD) : Nat :=
  let c0_i32_451 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_450 : BitVec 32 := 4#32
  let v537 : BitVec 32 := Scalar.muli v2 c4_i32_450
  let v538 : BitVec 32 := Scalar.addi c0_i32_451 v537
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_452 : BitVec 32 := 2#32
  let v539 : BitVec 32 := Scalar.muli v11 c2_i32_452
  let v540 : BitVec 32 := Scalar.addi v538 v539
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_453 : BitVec 32 := 1#32
  let v541 : BitVec 32 := Scalar.muli v8 c1_i32_453
  let v542 : BitVec 32 := Scalar.addi v540 v541
  v542.toNat
def k0_off23 (d0 : Dev nD) (c0_i32_476 : BitVec 32) (c0_i32_492 : BitVec 32) : Fin 2 → Nat :=
  let c0_493 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v24 : BitVec 32 := Scalar.muli v8 c4096_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let v568 : BitVec 32 := Scalar.addi v13 c0_i32_476
  let c4_i32_477 : BitVec 32 := 4#32
  let c0_i32_478 : BitVec 32 := 0#32
  let v569 : BitVec 1 := Scalar.cmpi .eq c4_i32_477 c0_i32_478
  let c1_i32_479 : BitVec 32 := 1#32
  let v570 : BitVec 32 := Scalar.select v569 c1_i32_479 c4_i32_477
  let v571 : BitVec 32 := Scalar.remsi v568 v570
  let c0_i32_481 : BitVec 32 := 0#32
  let v573 : BitVec 1 := Scalar.cmpi .slt v571 c0_i32_481
  let c0_i32_482 : BitVec 32 := 0#32
  let v574 : BitVec 1 := Scalar.cmpi .slt v570 c0_i32_482
  let v575 : BitVec 1 := Scalar.xori v573 v574
  let c0_i32_480 : BitVec 32 := 0#32
  let v572 : BitVec 1 := Scalar.cmpi .ne v571 c0_i32_480
  let v576 : BitVec 1 := Scalar.andi v575 v572
  let v577 : BitVec 32 := Scalar.addi v571 v570
  let v578 : BitVec 32 := Scalar.select v576 v577 v571
  let c1024_i32_491 : BitVec 32 := 1024#32
  let v590 : BitVec 32 := Scalar.muli v578 c1024_i32_491
  let v591 : BitVec 32 := Scalar.addi v24 v590
  let v592 : BitVec 32 := Scalar.addi v591 c0_i32_492
  let v593 : Index := Scalar.indexCast v592
  ![0, v593.toNat]
def k0_off24 (d0 : Dev nD) (c0_i32_689 : BitVec 32) : Fin 2 → Nat :=
  let c0_690 : Index := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c4096_i32_15 : BitVec 32 := 4096#32
  let v26 : BitVec 32 := Scalar.muli v25 c4096_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c1024_i32_688 : BitVec 32 := 1024#32
  let v879 : BitVec 32 := Scalar.muli v13 c1024_i32_688
  let v880 : BitVec 32 := Scalar.addi v26 v879
  let v881 : BitVec 32 := Scalar.addi v880 c0_i32_689
  let v882 : Index := Scalar.indexCast v881
  ![0, v882.toNat]
def k0_off25 (d0 : Dev nD) : Fin 5 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c0_i32_742 : BitVec 32 := 0#32
  let c0_i32_743 : BitVec 32 := 0#32
  let c0_i32_752 : BitVec 32 := 0#32
  let c0_i32_753 : BitVec 32 := 0#32
  ![v16.toNat, 0, 0, 0, 0]
def k0_dev17 (d0 : Dev nD) : Nat :=
  let c0_i32_749 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_748 : BitVec 32 := 4#32
  let v944 : BitVec 32 := Scalar.muli v2 c4_i32_748
  let v945 : BitVec 32 := Scalar.addi c0_i32_749 v944
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_750 : BitVec 32 := 2#32
  let v946 : BitVec 32 := Scalar.muli v11 c2_i32_750
  let v947 : BitVec 32 := Scalar.addi v945 v946
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_751 : BitVec 32 := 1#32
  let v948 : BitVec 32 := Scalar.muli v8 c1_i32_751
  let v949 : BitVec 32 := Scalar.addi v947 v948
  v949.toNat
def k0_off26 (d0 : Dev nD) : Fin 5 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v958 : Index := Scalar.indexCast v16
  let c0_756 : Index := 0#32
  let c0_757 : Index := 0#32
  let c0_758 : Index := 0#32
  let c0_759 : Index := 0#32
  ![v958.toNat, 0, 0, 0, 0]
def k0_off27 (d0 : Dev nD) : Fin 5 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v962 : Index := Scalar.indexCast v16
  let c0_760 : Index := 0#32
  let c1_761 : Index := 1#32
  let c0_762 : Index := 0#32
  let c0_763 : Index := 0#32
  ![v962.toNat, 0, 1, 0, 0]
def k0_off28 (d0 : Dev nD) (c0_i32_765 : BitVec 32) : Fin 2 → Nat :=
  let c0_766 : Index := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c4096_i32_15 : BitVec 32 := 4096#32
  let v26 : BitVec 32 := Scalar.muli v25 c4096_i32_15
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c1024_i32_764 : BitVec 32 := 1024#32
  let v969 : BitVec 32 := Scalar.muli v16 c1024_i32_764
  let v970 : BitVec 32 := Scalar.addi v26 v969
  let v971 : BitVec 32 := Scalar.addi v970 c0_i32_765
  let v972 : Index := Scalar.indexCast v971
  ![0, v972.toNat]
def k0_off29 (d0 : Dev nD) : Fin 5 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c0_i32_785 : BitVec 32 := 0#32
  let c1_i32_786 : BitVec 32 := 1#32
  let c0_i32_795 : BitVec 32 := 0#32
  let c0_i32_796 : BitVec 32 := 0#32
  ![v19.toNat, 0, 1, 0, 0]
def k0_dev18 (d0 : Dev nD) : Nat :=
  let c0_i32_792 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_791 : BitVec 32 := 4#32
  let v986 : BitVec 32 := Scalar.muli v10 c4_i32_791
  let v987 : BitVec 32 := Scalar.addi c0_i32_792 v986
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_793 : BitVec 32 := 2#32
  let v988 : BitVec 32 := Scalar.muli v5 c2_i32_793
  let v989 : BitVec 32 := Scalar.addi v987 v988
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_794 : BitVec 32 := 1#32
  let v990 : BitVec 32 := Scalar.muli v8 c1_i32_794
  let v991 : BitVec 32 := Scalar.addi v989 v990
  v991.toNat
def k0_off30 (d0 : Dev nD) : Fin 5 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let v1000 : Index := Scalar.indexCast v19
  let c0_799 : Index := 0#32
  let c0_800 : Index := 0#32
  let c0_801 : Index := 0#32
  let c0_802 : Index := 0#32
  ![v1000.toNat, 0, 0, 0, 0]
def k0_off31 (d0 : Dev nD) : Fin 5 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let v1004 : Index := Scalar.indexCast v19
  let c0_803 : Index := 0#32
  let c1_804 : Index := 1#32
  let c0_805 : Index := 0#32
  let c0_806 : Index := 0#32
  ![v1004.toNat, 0, 1, 0, 0]
def k0_off32 (d0 : Dev nD) (c0_i32_808 : BitVec 32) : Fin 2 → Nat :=
  let c0_809 : Index := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c4096_i32_15 : BitVec 32 := 4096#32
  let v26 : BitVec 32 := Scalar.muli v25 c4096_i32_15
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c1024_i32_807 : BitVec 32 := 1024#32
  let v1011 : BitVec 32 := Scalar.muli v19 c1024_i32_807
  let v1012 : BitVec 32 := Scalar.addi v26 v1011
  let v1013 : BitVec 32 := Scalar.addi v1012 c0_i32_808
  let v1014 : Index := Scalar.indexCast v1013
  ![0, v1014.toNat]
def k0_off33 (d0 : Dev nD) : Fin 5 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c1_i32_828 : BitVec 32 := 1#32
  let c0_i32_829 : BitVec 32 := 0#32
  let c0_i32_838 : BitVec 32 := 0#32
  let c0_i32_839 : BitVec 32 := 0#32
  ![v16.toNat, 1, 0, 0, 0]
def k0_dev19 (d0 : Dev nD) : Nat :=
  let c0_i32_835 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_834 : BitVec 32 := 4#32
  let v1028 : BitVec 32 := Scalar.muli v2 c4_i32_834
  let v1029 : BitVec 32 := Scalar.addi c0_i32_835 v1028
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_836 : BitVec 32 := 2#32
  let v1030 : BitVec 32 := Scalar.muli v11 c2_i32_836
  let v1031 : BitVec 32 := Scalar.addi v1029 v1030
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_837 : BitVec 32 := 1#32
  let v1032 : BitVec 32 := Scalar.muli v8 c1_i32_837
  let v1033 : BitVec 32 := Scalar.addi v1031 v1032
  v1033.toNat
def k0_off34 (d0 : Dev nD) : Fin 5 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v1042 : Index := Scalar.indexCast v16
  let c1_842 : Index := 1#32
  let c0_843 : Index := 0#32
  let c0_844 : Index := 0#32
  let c0_845 : Index := 0#32
  ![v1042.toNat, 1, 0, 0, 0]
def k0_off35 (d0 : Dev nD) : Fin 5 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v1046 : Index := Scalar.indexCast v16
  let c1_846 : Index := 1#32
  let c1_847 : Index := 1#32
  let c0_848 : Index := 0#32
  let c0_849 : Index := 0#32
  ![v1046.toNat, 1, 1, 0, 0]
def k0_off36 (d0 : Dev nD) : Fin 5 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c1_i32_871 : BitVec 32 := 1#32
  let c1_i32_872 : BitVec 32 := 1#32
  let c0_i32_881 : BitVec 32 := 0#32
  let c0_i32_882 : BitVec 32 := 0#32
  ![v19.toNat, 1, 1, 0, 0]
def k0_dev20 (d0 : Dev nD) : Nat :=
  let c0_i32_878 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_877 : BitVec 32 := 4#32
  let v1070 : BitVec 32 := Scalar.muli v10 c4_i32_877
  let v1071 : BitVec 32 := Scalar.addi c0_i32_878 v1070
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_879 : BitVec 32 := 2#32
  let v1072 : BitVec 32 := Scalar.muli v5 c2_i32_879
  let v1073 : BitVec 32 := Scalar.addi v1071 v1072
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_880 : BitVec 32 := 1#32
  let v1074 : BitVec 32 := Scalar.muli v8 c1_i32_880
  let v1075 : BitVec 32 := Scalar.addi v1073 v1074
  v1075.toNat
def k0_off37 (d0 : Dev nD) : Fin 5 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let v1084 : Index := Scalar.indexCast v19
  let c1_885 : Index := 1#32
  let c0_886 : Index := 0#32
  let c0_887 : Index := 0#32
  let c0_888 : Index := 0#32
  ![v1084.toNat, 1, 0, 0, 0]
def k0_off38 (d0 : Dev nD) : Fin 5 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let v1088 : Index := Scalar.indexCast v19
  let c1_889 : Index := 1#32
  let c1_890 : Index := 1#32
  let c0_891 : Index := 0#32
  let c0_892 : Index := 0#32
  ![v1088.toNat, 1, 1, 0, 0]
def k0_off39 (d0 : Dev nD) : Fin 5 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c2_i32_914 : BitVec 32 := 2#32
  let c0_i32_915 : BitVec 32 := 0#32
  let c0_i32_924 : BitVec 32 := 0#32
  let c0_i32_925 : BitVec 32 := 0#32
  ![v16.toNat, 2, 0, 0, 0]
def k0_dev21 (d0 : Dev nD) : Nat :=
  let c0_i32_921 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_920 : BitVec 32 := 4#32
  let v1112 : BitVec 32 := Scalar.muli v2 c4_i32_920
  let v1113 : BitVec 32 := Scalar.addi c0_i32_921 v1112
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_922 : BitVec 32 := 2#32
  let v1114 : BitVec 32 := Scalar.muli v11 c2_i32_922
  let v1115 : BitVec 32 := Scalar.addi v1113 v1114
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_923 : BitVec 32 := 1#32
  let v1116 : BitVec 32 := Scalar.muli v8 c1_i32_923
  let v1117 : BitVec 32 := Scalar.addi v1115 v1116
  v1117.toNat
def k0_off40 (d0 : Dev nD) : Fin 5 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v1126 : Index := Scalar.indexCast v16
  let c2_928 : Index := 2#32
  let c0_929 : Index := 0#32
  let c0_930 : Index := 0#32
  let c0_931 : Index := 0#32
  ![v1126.toNat, 2, 0, 0, 0]
def k0_off41 (d0 : Dev nD) : Fin 5 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v1130 : Index := Scalar.indexCast v16
  let c2_932 : Index := 2#32
  let c1_933 : Index := 1#32
  let c0_934 : Index := 0#32
  let c0_935 : Index := 0#32
  ![v1130.toNat, 2, 1, 0, 0]
def k0_off42 (d0 : Dev nD) : Fin 5 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c2_i32_957 : BitVec 32 := 2#32
  let c1_i32_958 : BitVec 32 := 1#32
  let c0_i32_967 : BitVec 32 := 0#32
  let c0_i32_968 : BitVec 32 := 0#32
  ![v19.toNat, 2, 1, 0, 0]
def k0_dev22 (d0 : Dev nD) : Nat :=
  let c0_i32_964 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_963 : BitVec 32 := 4#32
  let v1154 : BitVec 32 := Scalar.muli v10 c4_i32_963
  let v1155 : BitVec 32 := Scalar.addi c0_i32_964 v1154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_965 : BitVec 32 := 2#32
  let v1156 : BitVec 32 := Scalar.muli v5 c2_i32_965
  let v1157 : BitVec 32 := Scalar.addi v1155 v1156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_966 : BitVec 32 := 1#32
  let v1158 : BitVec 32 := Scalar.muli v8 c1_i32_966
  let v1159 : BitVec 32 := Scalar.addi v1157 v1158
  v1159.toNat
def k0_off43 (d0 : Dev nD) : Fin 5 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let v1168 : Index := Scalar.indexCast v19
  let c2_971 : Index := 2#32
  let c0_972 : Index := 0#32
  let c0_973 : Index := 0#32
  let c0_974 : Index := 0#32
  ![v1168.toNat, 2, 0, 0, 0]
def k0_off44 (d0 : Dev nD) : Fin 5 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let v1172 : Index := Scalar.indexCast v19
  let c2_975 : Index := 2#32
  let c1_976 : Index := 1#32
  let c0_977 : Index := 0#32
  let c0_978 : Index := 0#32
  ![v1172.toNat, 2, 1, 0, 0]
def k0_off45 (d0 : Dev nD) : Fin 5 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c3_i32_1000 : BitVec 32 := 3#32
  let c0_i32_1001 : BitVec 32 := 0#32
  let c0_i32_1010 : BitVec 32 := 0#32
  let c0_i32_1011 : BitVec 32 := 0#32
  ![v16.toNat, 3, 0, 0, 0]
def k0_dev23 (d0 : Dev nD) : Nat :=
  let c0_i32_1007 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1006 : BitVec 32 := 4#32
  let v1196 : BitVec 32 := Scalar.muli v2 c4_i32_1006
  let v1197 : BitVec 32 := Scalar.addi c0_i32_1007 v1196
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1008 : BitVec 32 := 2#32
  let v1198 : BitVec 32 := Scalar.muli v11 c2_i32_1008
  let v1199 : BitVec 32 := Scalar.addi v1197 v1198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1009 : BitVec 32 := 1#32
  let v1200 : BitVec 32 := Scalar.muli v8 c1_i32_1009
  let v1201 : BitVec 32 := Scalar.addi v1199 v1200
  v1201.toNat
def k0_off46 (d0 : Dev nD) : Fin 5 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v1210 : Index := Scalar.indexCast v16
  let c3_1014 : Index := 3#32
  let c0_1015 : Index := 0#32
  let c0_1016 : Index := 0#32
  let c0_1017 : Index := 0#32
  ![v1210.toNat, 3, 0, 0, 0]
def k0_off47 (d0 : Dev nD) : Fin 5 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v1214 : Index := Scalar.indexCast v16
  let c3_1018 : Index := 3#32
  let c1_1019 : Index := 1#32
  let c0_1020 : Index := 0#32
  let c0_1021 : Index := 0#32
  ![v1214.toNat, 3, 1, 0, 0]
def k0_off48 (d0 : Dev nD) : Fin 5 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c3_i32_1043 : BitVec 32 := 3#32
  let c1_i32_1044 : BitVec 32 := 1#32
  let c0_i32_1053 : BitVec 32 := 0#32
  let c0_i32_1054 : BitVec 32 := 0#32
  ![v19.toNat, 3, 1, 0, 0]
def k0_dev24 (d0 : Dev nD) : Nat :=
  let c0_i32_1050 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1049 : BitVec 32 := 4#32
  let v1238 : BitVec 32 := Scalar.muli v10 c4_i32_1049
  let v1239 : BitVec 32 := Scalar.addi c0_i32_1050 v1238
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1051 : BitVec 32 := 2#32
  let v1240 : BitVec 32 := Scalar.muli v5 c2_i32_1051
  let v1241 : BitVec 32 := Scalar.addi v1239 v1240
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1052 : BitVec 32 := 1#32
  let v1242 : BitVec 32 := Scalar.muli v8 c1_i32_1052
  let v1243 : BitVec 32 := Scalar.addi v1241 v1242
  v1243.toNat
def k0_off49 (d0 : Dev nD) : Fin 5 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let v1252 : Index := Scalar.indexCast v19
  let c3_1057 : Index := 3#32
  let c0_1058 : Index := 0#32
  let c0_1059 : Index := 0#32
  let c0_1060 : Index := 0#32
  ![v1252.toNat, 3, 0, 0, 0]
def k0_off50 (d0 : Dev nD) : Fin 5 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let v1256 : Index := Scalar.indexCast v19
  let c3_1061 : Index := 3#32
  let c1_1062 : Index := 1#32
  let c0_1063 : Index := 0#32
  let c0_1064 : Index := 0#32
  ![v1256.toNat, 3, 1, 0, 0]
def k0_off51 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c0_i32_1070 : BitVec 32 := 0#32
  let c1_i32_1071 : BitVec 32 := 1#32
  let c0_i32_1080 : BitVec 32 := 0#32
  let c0_i32_1081 : BitVec 32 := 0#32
  ![v23.toNat, 0, 1, 0, 0]
def k0_off52 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c0_i32_1086 : BitVec 32 := 0#32
  let c0_i32_1087 : BitVec 32 := 0#32
  let c0_i32_1096 : BitVec 32 := 0#32
  let c0_i32_1097 : BitVec 32 := 0#32
  ![v23.toNat, 0, 0, 0, 0]
def k0_off53 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let v1292 : Index := Scalar.indexCast v23
  let c0_1100 : Index := 0#32
  let c0_1101 : Index := 0#32
  let c0_1102 : Index := 0#32
  let c0_1103 : Index := 0#32
  ![v1292.toNat, 0, 0, 0, 0]
def k0_off54 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let v1296 : Index := Scalar.indexCast v23
  let c0_1104 : Index := 0#32
  let c1_1105 : Index := 1#32
  let c0_1106 : Index := 0#32
  let c0_1107 : Index := 0#32
  ![v1296.toNat, 0, 1, 0, 0]
def k0_off55 (d0 : Dev nD) (c0_i32_1109 : BitVec 32) : Fin 2 → Nat :=
  let c0_1110 : Index := 0#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_14 v8
  let c4096_i32_15 : BitVec 32 := 4096#32
  let v26 : BitVec 32 := Scalar.muli v25 c4096_i32_15
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c1024_i32_1108 : BitVec 32 := 1024#32
  let v1303 : BitVec 32 := Scalar.muli v23 c1024_i32_1108
  let v1304 : BitVec 32 := Scalar.addi v26 v1303
  let v1305 : BitVec 32 := Scalar.addi v1304 c0_i32_1109
  let v1306 : Index := Scalar.indexCast v1305
  ![0, v1306.toNat]
def k0_off56 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c1_i32_1113 : BitVec 32 := 1#32
  let c1_i32_1114 : BitVec 32 := 1#32
  let c0_i32_1123 : BitVec 32 := 0#32
  let c0_i32_1124 : BitVec 32 := 0#32
  ![v23.toNat, 1, 1, 0, 0]
def k0_off57 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c1_i32_1129 : BitVec 32 := 1#32
  let c0_i32_1130 : BitVec 32 := 0#32
  let c0_i32_1139 : BitVec 32 := 0#32
  let c0_i32_1140 : BitVec 32 := 0#32
  ![v23.toNat, 1, 0, 0, 0]
def k0_off58 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let v1332 : Index := Scalar.indexCast v23
  let c1_1143 : Index := 1#32
  let c0_1144 : Index := 0#32
  let c0_1145 : Index := 0#32
  let c0_1146 : Index := 0#32
  ![v1332.toNat, 1, 0, 0, 0]
def k0_off59 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let v1336 : Index := Scalar.indexCast v23
  let c1_1147 : Index := 1#32
  let c1_1148 : Index := 1#32
  let c0_1149 : Index := 0#32
  let c0_1150 : Index := 0#32
  ![v1336.toNat, 1, 1, 0, 0]
def k0_off60 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c2_i32_1156 : BitVec 32 := 2#32
  let c1_i32_1157 : BitVec 32 := 1#32
  let c0_i32_1166 : BitVec 32 := 0#32
  let c0_i32_1167 : BitVec 32 := 0#32
  ![v23.toNat, 2, 1, 0, 0]
def k0_off61 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c2_i32_1172 : BitVec 32 := 2#32
  let c0_i32_1173 : BitVec 32 := 0#32
  let c0_i32_1182 : BitVec 32 := 0#32
  let c0_i32_1183 : BitVec 32 := 0#32
  ![v23.toNat, 2, 0, 0, 0]
def k0_off62 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let v1372 : Index := Scalar.indexCast v23
  let c2_1186 : Index := 2#32
  let c0_1187 : Index := 0#32
  let c0_1188 : Index := 0#32
  let c0_1189 : Index := 0#32
  ![v1372.toNat, 2, 0, 0, 0]
def k0_off63 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let v1376 : Index := Scalar.indexCast v23
  let c2_1190 : Index := 2#32
  let c1_1191 : Index := 1#32
  let c0_1192 : Index := 0#32
  let c0_1193 : Index := 0#32
  ![v1376.toNat, 2, 1, 0, 0]
def k0_off64 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c3_i32_1199 : BitVec 32 := 3#32
  let c1_i32_1200 : BitVec 32 := 1#32
  let c0_i32_1209 : BitVec 32 := 0#32
  let c0_i32_1210 : BitVec 32 := 0#32
  ![v23.toNat, 3, 1, 0, 0]
def k0_off65 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c3_i32_1215 : BitVec 32 := 3#32
  let c0_i32_1216 : BitVec 32 := 0#32
  let c0_i32_1225 : BitVec 32 := 0#32
  let c0_i32_1226 : BitVec 32 := 0#32
  ![v23.toNat, 3, 0, 0, 0]
def k0_off66 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let v1412 : Index := Scalar.indexCast v23
  let c3_1229 : Index := 3#32
  let c0_1230 : Index := 0#32
  let c0_1231 : Index := 0#32
  let c0_1232 : Index := 0#32
  ![v1412.toNat, 3, 0, 0, 0]
def k0_off67 (d0 : Dev nD) : Fin 5 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let v1416 : Index := Scalar.indexCast v23
  let c3_1233 : Index := 3#32
  let c1_1234 : Index := 1#32
  let c0_1235 : Index := 0#32
  let c0_1236 : Index := 0#32
  ![v1416.toNat, 3, 1, 0, 0]
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 16
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S512x8192, .bf16⟩
  | .hbm, ⟨2, _⟩ => ⟨S256x512, .f32⟩
  | .hbm, ⟨3, _⟩ => ⟨S512x8192, .f32⟩
  | .hbm, ⟨4, _⟩ => ⟨S256x8192, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x8192, .f32⟩
  | .hbm, ⟨9, _⟩ => ⟨S256x8192, .f32⟩
  | .hbm, ⟨10, _⟩ => ⟨S256x8192, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S256x8192, .f32⟩
  | .hbm, ⟨15, _⟩ => ⟨S256x8192, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Prog.lean ====
/- The kernel's body as a composition of a few parametric steps, each over a named block of a buffer. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Soft

open Idealize.ShloMosaic Idealize.ShloMosaic.TcCoe
open Idealize.SL.Sem
open Cert.KernelIdeal.Gen

variable {F : FTy → Type} [FloatOps F]

/-! ## Places of a device -/

/-- The device across the `z` axis. -/
def zp (c : Dev nD) : Dev nD := ⟨4 * (c.val / 4) + 2 * ((c.val / 2) % 2) + (1 - c.val % 2), by have := c.isLt; simp only [nD] at this ⊢; omega⟩
/-- The device across the `x` axis. -/
def xp (c : Dev nD) : Dev nD := ⟨4 * (1 - c.val / 4) + 2 * ((c.val / 2) % 2) + c.val % 2, by have := c.isLt; simp only [nD] at this ⊢; omega⟩
/-- The device across the `y` axis. -/
def yp (c : Dev nD) : Dev nD := ⟨4 * (c.val / 4) + 2 * (1 - (c.val / 2) % 2) + c.val % 2, by have := c.isLt; simp only [nD] at this ⊢; omega⟩
/-- The quarter of its half that a device computes and sends. -/
def qo (c : Dev nD) : Fin 4 := ⟨2 * (c.val / 4) + (c.val / 2) % 2, by have := c.isLt; simp only [nD] at this ⊢; omega⟩
/-- The quarter that is `j` after a device's own. -/
def qj (c : Dev nD) (j : Fin 4) : Fin 4 := ⟨((qo c).val + j.val) % 4, by omega⟩
/-- The half of the columns that a device holds. -/
def zc (c : Dev nD) : Fin 2 := ⟨c.val % 2, by omega⟩
/-- The number of an output tile: half `z`, quarter `a`, strip `s`. -/
def tno (z : Fin 2) (a s : Fin 4) : Fin 32 := ⟨16 * z.val + 4 * a.val + s.val, by omega⟩

/-! ## Offsets -/

/-- The offset of the block of quarter `a`, strip `s`, part `h` (128 columns) of a tile buffer. -/
structure BOff (a s : Fin 4) (h : Fin 2) where
  off : Fin 5 → ℕ
  eq : off = ![a.val, s.val, h.val, 0, 0]

theorem binb0 : ∀ (a s : Fin 4) (h : Fin 2), ∀ i, (![a.val, s.val, h.val, 0, 0] : Fin 5 → ℕ) i + S1x1x1x256x128.size i ≤ S4x4x2x256x128.size i := by decide +kernel
theorem BOff.inb {a s h} (b : BOff a s h) : ∀ i, b.off i + S1x1x1x256x128.size i ≤ S4x4x2x256x128.size i := by
  obtain ⟨_, rfl⟩ := b; exact binb0 a s h
/-- The block's rectangle. -/
abbrev BOff.rect {a s h} (b : BOff a s h) : Rect S4x4x2x256x128 := Rect.unit (s := S4x4x2x256x128) b.off S1x1x1x256x128.size b.inb

/-- The offset of the two blocks of quarter `a`, strip `s`. -/
structure ZOff (a s : Fin 4) where
  off : Fin 5 → ℕ
  eq : off = ![a.val, s.val, 0, 0, 0]

theorem zinb0 : ∀ (a s : Fin 4), ∀ i, (![a.val, s.val, 0, 0, 0] : Fin 5 → ℕ) i + S1x1x2x256x128.size i ≤ S4x4x2x256x128.size i := by decide +kernel
theorem ZOff.inb {a s} (b : ZOff a s) : ∀ i, b.off i + S1x1x2x256x128.size i ≤ S4x4x2x256x128.size i := by
  obtain ⟨_, rfl⟩ := b; exact zinb0 a s
/-- The two blocks' rectangle. -/
abbrev ZOff.rect {a s} (b : ZOff a s) : Rect S4x4x2x256x128 := Rect.unit (s := S4x4x2x256x128) b.off S1x1x2x256x128.size b.inb

/-- The offset of an output tile. -/
structure TOff (t : Fin 32) where
  off : Fin 2 → ℕ
  eq : off = ![0, 256 * t.val]
theorem tinb0 : ∀ (t : Fin 32), ∀ i, (![0, 256 * t.val] : Fin 2 → ℕ) i + S256x256.size i ≤ S256x8192.size i := by decide +kernel
theorem TOff.inb {t} (b : TOff t) : ∀ i, b.off i + S256x256.size i ≤ S256x8192.size i := by
  obtain ⟨_, rfl⟩ := b; exact tinb0 t
/-- The tile's rectangle. -/
abbrev TOff.rect {t} (b : TOff t) : Rect S256x8192 := Rect.unit (s := S256x8192) b.off S256x256.size b.inb

/-- The offset of a 256-column strip of the weights. -/
structure UOff (t : Fin 16) where
  off : Fin 2 → ℕ
  eq : off = ![0, 256 * t.val]
theorem uinb0 : ∀ (t : Fin 16), ∀ i, (![0, 256 * t.val] : Fin 2 → ℕ) i + S512x256.size i ≤ S512x4096.size i := by decide +kernel
theorem UOff.inb {t} (b : UOff t) : ∀ i, b.off i + S512x256.size i ≤ S512x4096.size i := by
  obtain ⟨_, rfl⟩ := b; exact uinb0 t
abbrev UOff.rect {t} (b : UOff t) : Rect S512x4096 := Rect.unit (s := S512x4096) b.off S512x256.size b.inb

/-- The offset of a 1024-column quarter of the weights. -/
structure QOff (a : Fin 4) where
  off : Fin 2 → ℕ
  eq : off = ![0, 1024 * a.val]
theorem qinb0 : ∀ (t : Fin 4), ∀ i, (![0, 1024 * t.val] : Fin 2 → ℕ) i + S512x1024.size i ≤ S512x4096.size i := by decide +kernel
theorem QOff.inb {t} (b : QOff t) : ∀ i, b.off i + S512x1024.size i ≤ S512x4096.size i := by
  obtain ⟨_, rfl⟩ := b; exact qinb0 t
abbrev QOff.rect {t} (b : QOff t) : Rect S512x4096 := Rect.unit (s := S512x4096) b.off S512x1024.size b.inb

theorem bwords0 : ∀ (a s : Fin 4) (h : Fin 2), (Rect.unit (s := S4x4x2x256x128) ![a.val, s.val, h.val, 0, 0] S1x1x1x256x128.size (binb0 a s h)).WholeWords (EltTy.packing .bf16) := by decide +kernel
theorem bpack0 : ∀ (a s : Fin 4) (h : Fin 2), (Rect.unit (s := S4x4x2x256x128) ![a.val, s.val, h.val, 0, 0] S1x1x1x256x128.size (binb0 a s h)).PackedRows (EltTy.packing .bf16) := by decide +kernel
theorem zwords0 : ∀ (a s : Fin 4), (Rect.unit (s := S4x4x2x256x128) ![a.val, s.val, 0, 0, 0] S1x1x2x256x128.size (zinb0 a s)).WholeWords (EltTy.packing .bf16) := by decide +kernel
theorem BOff.words {a s h} (b : BOff a s h) : b.rect.WholeWords (EltTy.packing .bf16) := by
  obtain ⟨_, rfl⟩ := b; exact bwords0 a s h
theorem BOff.packed {a s h} (b : BOff a s h) : b.rect.PackedRows (EltTy.packing .bf16) := by
  obtain ⟨_, rfl⟩ := b; exact bpack0 a s h
theorem ZOff.words {a s} (b : ZOff a s) : b.rect.WholeWords (EltTy.packing .bf16) := by
  obtain ⟨_, rfl⟩ := b; exact zwords0 a s

/-! ## The buffers and their views -/

abbrev TP (F : FTy → Type) [FloatOps F] := Prog (TpuEff nD τ sig (Elt F) Λ₀ .tc)
abbrev BM := Memref sig .tc .vmem S4x4x2x256x128 .bf16
/-- The staging buffers of the arguments and the result, and the three scratch buffers. -/
abbrev xM : Memref sig .tc .vmem S256x512 .bf16 := Memref.whole cc0_stg0_0
abbrev wM : Memref sig .tc .vmem S512x4096 .bf16 := Memref.whole cc0_stg1_0
abbrev oM : Memref sig .tc .vmem S256x8192 .f32 := Memref.whole cc0_stg2_0
abbrev eM : BM := Memref.whole cc0_scratch0
abbrev rM : BM := Memref.whole cc0_scratch1
abbrev sM : Memref sig .tc .vmem S2x256x8 .f32 := Memref.whole cc0_scratch2

/-- Two blocks of a tile buffer as one view. -/
abbrev zV (M : BM) {a s} (b : ZOff a s) : Memref sig .tc .vmem S2x256x128 .bf16 :=
  (M.slice b.rect (fun _ => rfl)).squeeze S2x256x128 squeezes_S1x1x2x256x128_S2x256x128
/-- One block of a tile buffer as a view. -/
abbrev hV (M : BM) {a s h} (b : BOff a s h) : Memref sig .tc .vmem S256x128 .bf16 :=
  (M.slice b.rect (fun _ => rfl)).squeeze S256x128 squeezes_S1x1x1x256x128_S256x128
/-- The row sums sent, and the row sums received. -/
abbrev sV0 : Memref sig .tc .vmem S256x8 .f32 :=
  (sM.slice (Rect.unit (s := S2x256x8) ![0, 0, 0] S1x256x8.size inb_S2x256x8_S1x256x8_0_0_0) (fun _ => rfl)).squeeze S256x8 squeezes_S1x256x8_S256x8
abbrev sV1 : Memref sig .tc .vmem S256x8 .f32 :=
  (sM.slice (Rect.unit (s := S2x256x8) ![1, 0, 0] S1x256x8.size inb_S2x256x8_S1x256x8_1_0_0) (fun _ => rfl)).squeeze S256x8 squeezes_S1x256x8_S256x8

theorem zV_words (M : BM) (hM : M.IsWhole) {a s} (b : ZOff a s) : (zV M b).view.WordExact := (hM.wordExact_slice rfl _ b.words).reshape _ _
theorem hV_words (M : BM) (hM : M.IsWhole) {a s h} (b : BOff a s h) : (hV M b).view.WordExact := (hM.wordExact_slice rfl _ b.words).reshape _ _
theorem eW : (eM : BM).IsWhole := Memref.isWhole_whole _
theorem rW : (rM : BM).IsWhole := Memref.isWhole_whole _

/-! ## Semaphores, by number -/
abbrev zsS (s : Fin 4) : DmaSem sig := ⟨3 + s.val, by have := s.isLt; show _ < 45; omega⟩
abbrev zrS (s : Fin 4) : DmaSem sig := ⟨7 + s.val, by have := s.isLt; show _ < 45; omega⟩
abbrev stS (r : Fin 2) : DmaSem sig := ⟨11 + r.val, by have := r.isLt; show _ < 45; omega⟩
abbrev psS (r : Fin 2) (s : Fin 4) : DmaSem sig := ⟨13 + 4 * r.val + s.val, by have := s.isLt; show _ < 45; omega⟩
abbrev prS (r : Fin 2) (s : Fin 4) : DmaSem sig := ⟨21 + 4 * r.val + s.val, by have := s.isLt; show _ < 45; omega⟩
abbrev fsS (r : Fin 2) (s : Fin 4) : DmaSem sig := ⟨29 + 4 * r.val + s.val, by have := s.isLt; show _ < 45; omega⟩
abbrev frS (r : Fin 2) (s : Fin 4) : DmaSem sig := ⟨37 + 4 * r.val + s.val, by have := s.isLt; show _ < 45; omega⟩
/-- The barrier semaphore. -/
abbrev barS : Sem sig := (SemArray.scalar (sig.barrier 0 rfl) : Sems sig S_).sem

/-! ## The steps -/

/-- Read a block. -/
def ldB (M : BM) {a s h} (b : BOff a s h) : TP F (Vec F S1x1x1x256x128 .bf16) :=
  Prog.lift (.load M b.rect.toLoadRect (View.loadsAt_vmem h_S1x1x1x256x128))
/-- Write a block of the buffer of exponentials. -/
def stB {a s h} (b : BOff a s h) (v : FVec F S1x1x1x256x128 .bf16) : TP F PUnit := do
  let _ ← ldB eM b
  Prog.lift (.store eM b.rect v Finset.univ (View.stores_vmem h_S1x1x1x256x128 (eW.storeExact_slice rfl _ b.packed) (fun _ => rfl)) (.inl rfl))
/-- Send two blocks. -/
def snZ (M : BM) (hM : M.IsWhole) {a s} (b : ZOff a s) (n : Dev nD) (S R : DmaSem sig) : TP F PUnit :=
  Prog.lift (.enqueueDma (zV M b) (.remote (Dev.tc n) (zV rM b) (.dma S)) (.dma R) (zV_words M hM b) (zV_words rM rW b) ⟨⟨rfl, Or.inl rfl⟩, trivial⟩)
/-- Send one block. -/
def snH {a s h} (b : BOff a s h) (n : Dev nD) (S R : DmaSem sig) : TP F PUnit :=
  Prog.lift (.enqueueDma (hV rM b) (.remote (Dev.tc n) (hV rM b) (.dma S)) (.dma R) (hV_words rM rW b) (hV_words rM rW b) ⟨⟨rfl, Or.inl rfl⟩, trivial⟩)
/-- Wait for two blocks. -/
def wtZ (M M' : BM) (hM : M.IsWhole) (hM' : M'.IsWhole) {a s} (b : ZOff a s) (S : DmaSem sig) : TP F PUnit :=
  Prog.lift (.waitDma2 S (zV M b) (zV M' b) (zV_words M hM b) (zV_words M' hM' b))
/-- Wait for one block. -/
def wtH {a s h} (b : BOff a s h) (S : DmaSem sig) : TP F PUnit :=
  Prog.lift (.waitDma2 S (hV rM b) (hV rM b) (hV_words rM rW b) (hV_words rM rW b))
/-- Compute an output tile from two blocks. -/
def outB (M : BM) {a s a' s' t} (b0 : BOff a s 0) (b1 : BOff a' s' 1) (o : TOff t) (inv : FVec F S256x1 .f32) : TP F PUnit := do
  let v0 ← ldB M b0
  let v1 ← ldB M b1
  let _ : Vec F S256x256 .f32 ← Prog.lift (.load oM o.rect.toLoadRect (View.loadsAt_vmem h_S256x256))
  Prog.lift (.store oM o.rect (k0_pay63 inv v0 v1) Finset.univ (View.stores_vmem_bits_univ h_S256x256 rfl) (.inl rfl))

/-- One strip of a device's own quarter: computed, stored, sent across `z`; returns its exponentials. -/
def ownB (s : Fin 4) {t} (u : UOff t) {a} (b0 : BOff a s 0) (b1 : BOff a s 1) (z : ZOff a s) (n : Dev nD) (x : Vec F S256x512 .bf16) : TP F (FVec F S256x256 .f32) := do
  let w : Vec F S512x256 .bf16 ← Prog.lift (.load wM u.rect.toLoadRect (View.loadsAt_vmem h_S512x256))
  stB b0 (k0_pay5 x w)
  stB b1 (k0_pay7 (k0_pay6 x w))
  snZ eM eW z n (zsS s) (zrS s)
  pure (k0_pay3 x w)

/-- One other quarter: computed and stored; returns its exponentials. -/
def othB {a} (u : QOff a) (b : ∀ (s : Fin 4) (h : Fin 2), BOff a s h) (x : Vec F S256x512 .bf16) : TP F (FVec F S256x1024 .f32) := do
  let w : Vec F S512x1024 .bf16 ← Prog.lift (.load wM u.rect.toLoadRect (View.loadsAt_vmem h_S512x1024))
  stB (b 0 0) (k0_pay51 (k0_pay1 x) w)
  stB (b 0 1) (k0_pay52 (k0_pay1 x) w)
  stB (b 1 0) (k0_pay53 (k0_pay1 x) w)
  stB (b 1 1) (k0_pay54 (k0_pay1 x) w)
  stB (b 2 0) (k0_pay55 (k0_pay1 x) w)
  stB (b 2 1) (k0_pay57 (k0_pay56 (k0_pay1 x) w))
  stB (b 3 0) (k0_pay58 (k0_pay50 (k0_pay1 x) w))
  stB (b 3 1) (k0_pay59 (k0_pay50 (k0_pay1 x) w))
  pure (k0_pay49 (k0_pay1 x) w)

/-- Send the own row sums. -/
def statB (n : Dev nD) (acc : FVec F S256x1 .f32) (e : FVec F S256x1024 .f32) : TP F PUnit := do
  let _ : Vec F S1x256x8 .f32 ← Prog.lift (.load sM (Rect.unit (s := S2x256x8) ![0, 0, 0] S1x256x8.size inb_S2x256x8_S1x256x8_0_0_0).toLoadRect (View.loadsAt_vmem h_S1x256x8))
  Prog.lift (.store sM (Rect.unit (s := S2x256x8) ![0, 0, 0] S1x256x8.size inb_S2x256x8_S1x256x8_0_0_0) (k0_pay61 acc e) Finset.univ (View.stores_vmem_bits_univ h_S1x256x8 rfl) (.inl rfl))
  Prog.lift (.enqueueDma sV0 (.remote (Dev.tc n) sV1 (.dma (stS 0))) (.dma (stS 1)) ((View.wordExact_bits rfl).reshape _ _) ((View.wordExact_bits rfl).reshape _ _) ⟨⟨rfl, Or.inl rfl⟩, trivial⟩)

/-- Pass a strip received across `z` on to both neighbours. -/
def passB (s : Fin 4) {a} (z : ZOff a s) (n₁ n₂ : Dev nD) : TP F PUnit := do
  wtZ eM rM eW rW z (zrS s)
  snZ rM rW z n₁ (psS 0 s) (prS 0 s)
  snZ rM rW z n₂ (psS 1 s) (prS 1 s)

/-- Receive the other half's row sums. -/
def sumB (acc : FVec F S256x1 .f32) : TP F (FVec F S256x1 .f32) := do
  Prog.lift (.waitDma2 (stS 1) sV0 sV1 ((View.wordExact_bits rfl).reshape _ _) ((View.wordExact_bits rfl).reshape _ _))
  let v : Vec F S1x256x1 .f32 ← Prog.lift (.load sM (Rect.unit (s := S2x256x8) ![1, 0, 0] S1x256x1.size inb_S2x256x8_S1x256x1_1_0_0).toLoadRect (View.loadsAt_vmem h_S1x256x1))
  pure (k0_pay62 acc v)

/-- Receive a strip from the neighbour of direction `d`, forward its part, and write its output tile. -/
def fwdB (s : Fin 4) (d : Fin 2) (d' : Fin 2) {a'} (z : ZOff a' s) {a h} (f : BOff a s h) (n : Dev nD) (b0 : BOff a s 0) (b1 : BOff a s 1) {t} (o : TOff t) (inv : FVec F S256x1 .f32) : TP F PUnit := do
  wtZ rM rM rW rW z (prS d s)
  snH f n (fsS d s) (frS d' s)
  outB rM b0 b1 o inv

/-- Receive the two forwarded blocks of a strip and write its output tile. -/
def finB (s : Fin 4) {a} (f1 : BOff a s 1) (f0 : BOff a s 0) (b0 : BOff a s 0) (b1 : BOff a s 1) {t} (o : TOff t) (inv : FVec F S256x1 .f32) : TP F PUnit := do
  wtH f1 (frS 0 s)
  wtH f0 (frS 1 s)
  outB rM b0 b1 o inv

/-- Wait for the sends of a strip. -/
def endB (s : Fin 4) {a} (z : ZOff a s) {a' h'} (f : BOff a' s h') {a'' h''} (g : BOff a'' s h'') : TP F PUnit := do
  wtZ rM rM rW rW z (psS 0 s)
  wtZ rM rM rW rW z (psS 1 s)
  wtH f (fsS 0 s)
  wtH g (fsS 1 s)

/-- The quarters of the neighbours across `x`, across `y`, and of the opposite corner. -/
abbrev qx (c : Dev nD) : Fin 4 := qo (xp c)
abbrev qy (c : Dev nD) : Fin 4 := qo (yp c)
abbrev qd (c : Dev nD) : Fin 4 := qo (xp (yp c))
/-- The half of the columns that a device does not hold. -/
abbrev zo (c : Dev nD) : Fin 2 := zc (zp c)

/-! ## The printed offsets and neighbours, in closed form -/
section
variable (c : Dev nD)

/-- The blocks of the own quarter. -/
def bE : ∀ (s : Fin 4) (h : Fin 2), BOff (qo c) s h
  | 0, 0 => ⟨k0_off2 c, by revert c; decide +kernel⟩
  | 0, 1 => ⟨k0_off3 c, by revert c; decide +kernel⟩
  | 1, 0 => ⟨k0_off5 c, by revert c; decide +kernel⟩
  | 1, 1 => ⟨k0_off6 c, by revert c; decide +kernel⟩
  | 2, 0 => ⟨k0_off8 c, by revert c; decide +kernel⟩
  | 2, 1 => ⟨k0_off9 c, by revert c; decide +kernel⟩
  | 3, 0 => ⟨k0_off11 c, by revert c; decide +kernel⟩
  | 3, 1 => ⟨k0_off12 c, by revert c; decide +kernel⟩
/-- The strips of the own quarter. -/
def zE : ∀ s : Fin 4, ZOff (qo c) s
  | 0 => ⟨k0_off4 c, by revert c; decide +kernel⟩
  | 1 => ⟨k0_off7 c, by revert c; decide +kernel⟩
  | 2 => ⟨k0_off10 c, by revert c; decide +kernel⟩
  | 3 => ⟨k0_off13 c, by revert c; decide +kernel⟩
/-- The weights of the strips of the own quarter. -/
def uE : ∀ s : Fin 4, UOff ⟨4 * (qo c).val + s.val, by omega⟩
  | 0 => ⟨k0_off1 c 0#32, by revert c; decide +kernel⟩
  | 1 => ⟨k0_off1 c 256#32, by revert c; decide +kernel⟩
  | 2 => ⟨k0_off1 c 512#32, by revert c; decide +kernel⟩
  | 3 => ⟨k0_off1 c 768#32, by revert c; decide +kernel⟩
/-- The blocks forwarded across `y`. -/
def hx : ∀ s : Fin 4, BOff (qx c) s 0
  | 0 => ⟨k0_off25 c, by revert c; decide +kernel⟩
  | 1 => ⟨k0_off33 c, by revert c; decide +kernel⟩
  | 2 => ⟨k0_off39 c, by revert c; decide +kernel⟩
  | 3 => ⟨k0_off45 c, by revert c; decide +kernel⟩
/-- The blocks of the quarter of the neighbour across `x`. -/
def bx : ∀ (s : Fin 4) (h : Fin 2), BOff (qx c) s h
  | 0, 0 => ⟨k0_off26 c, by revert c; decide +kernel⟩
  | 0, 1 => ⟨k0_off27 c, by revert c; decide +kernel⟩
  | 1, 0 => ⟨k0_off34 c, by revert c; decide +kernel⟩
  | 1, 1 => ⟨k0_off35 c, by revert c; decide +kernel⟩
  | 2, 0 => ⟨k0_off40 c, by revert c; decide +kernel⟩
  | 2, 1 => ⟨k0_off41 c, by revert c; decide +kernel⟩
  | 3, 0 => ⟨k0_off46 c, by revert c; decide +kernel⟩
  | 3, 1 => ⟨k0_off47 c, by revert c; decide +kernel⟩
/-- The blocks forwarded across `x`. -/
def hy : ∀ s : Fin 4, BOff (qy c) s 1
  | 0 => ⟨k0_off29 c, by revert c; decide +kernel⟩
  | 1 => ⟨k0_off36 c, by revert c; decide +kernel⟩
  | 2 => ⟨k0_off42 c, by revert c; decide +kernel⟩
  | 3 => ⟨k0_off48 c, by revert c; decide +kernel⟩
/-- The blocks of the quarter of the neighbour across `y`. -/
def by_ : ∀ (s : Fin 4) (h : Fin 2), BOff (qy c) s h
  | 0, 0 => ⟨k0_off30 c, by revert c; decide +kernel⟩
  | 0, 1 => ⟨k0_off31 c, by revert c; decide +kernel⟩
  | 1, 0 => ⟨k0_off37 c, by revert c; decide +kernel⟩
  | 1, 1 => ⟨k0_off38 c, by revert c; decide +kernel⟩
  | 2, 0 => ⟨k0_off43 c, by revert c; decide +kernel⟩
  | 2, 1 => ⟨k0_off44 c, by revert c; decide +kernel⟩
  | 3, 0 => ⟨k0_off49 c, by revert c; decide +kernel⟩
  | 3, 1 => ⟨k0_off50 c, by revert c; decide +kernel⟩
/-- The blocks forwarded to this device across `x`. -/
def h1 : ∀ s : Fin 4, BOff (qd c) s 1
  | 0 => ⟨k0_off51 c, by revert c; decide +kernel⟩
  | 1 => ⟨k0_off56 c, by revert c; decide +kernel⟩
  | 2 => ⟨k0_off60 c, by revert c; decide +kernel⟩
  | 3 => ⟨k0_off64 c, by revert c; decide +kernel⟩
/-- The blocks forwarded to this device across `y`. -/
def h0 : ∀ s : Fin 4, BOff (qd c) s 0
  | 0 => ⟨k0_off52 c, by revert c; decide +kernel⟩
  | 1 => ⟨k0_off57 c, by revert c; decide +kernel⟩
  | 2 => ⟨k0_off61 c, by revert c; decide +kernel⟩
  | 3 => ⟨k0_off65 c, by revert c; decide +kernel⟩
/-- The blocks of the opposite corner's quarter. -/
def bd : ∀ (s : Fin 4) (h : Fin 2), BOff (qd c) s h
  | 0, 0 => ⟨k0_off53 c, by revert c; decide +kernel⟩
  | 0, 1 => ⟨k0_off54 c, by revert c; decide +kernel⟩
  | 1, 0 => ⟨k0_off58 c, by revert c; decide +kernel⟩
  | 1, 1 => ⟨k0_off59 c, by revert c; decide +kernel⟩
  | 2, 0 => ⟨k0_off62 c, by revert c; decide +kernel⟩
  | 2, 1 => ⟨k0_off63 c, by revert c; decide +kernel⟩
  | 3, 0 => ⟨k0_off66 c, by revert c; decide +kernel⟩
  | 3, 1 => ⟨k0_off67 c, by revert c; decide +kernel⟩
/-- The output tiles of the own quarter in the other half. -/
def tE : ∀ s : Fin 4, TOff (tno (zo c) (qo c) s)
  | 0 => ⟨k0_off24 c 0#32, by revert c; decide +kernel⟩
  | 1 => ⟨k0_off24 c 256#32, by revert c; decide +kernel⟩
  | 2 => ⟨k0_off24 c 512#32, by revert c; decide +kernel⟩
  | 3 => ⟨k0_off24 c 768#32, by revert c; decide +kernel⟩
/-- The output tiles of the quarter across `x` in the other half. -/
def tx : ∀ s : Fin 4, TOff (tno (zo c) (qx c) s)
  | 0 => ⟨k0_off28 c 0#32, by revert c; decide +kernel⟩
  | 1 => ⟨k0_off28 c 256#32, by revert c; decide +kernel⟩
  | 2 => ⟨k0_off28 c 512#32, by revert c; decide +kernel⟩
  | 3 => ⟨k0_off28 c 768#32, by revert c; decide +kernel⟩
/-- The output tiles of the quarter across `y` in the other half. -/
def ty : ∀ s : Fin 4, TOff (tno (zo c) (qy c) s)
  | 0 => ⟨k0_off32 c 0#32, by revert c; decide +kernel⟩
  | 1 => ⟨k0_off32 c 256#32, by revert c; decide +kernel⟩
  | 2 => ⟨k0_off32 c 512#32, by revert c; decide +kernel⟩
  | 3 => ⟨k0_off32 c 768#32, by revert c; decide +kernel⟩
/-- The output tiles of the opposite corner's quarter in the other half. -/
def td : ∀ s : Fin 4, TOff (tno (zo c) (qd c) s)
  | 0 => ⟨k0_off55 c 0#32, by revert c; decide +kernel⟩
  | 1 => ⟨k0_off55 c 256#32, by revert c; decide +kernel⟩
  | 2 => ⟨k0_off55 c 512#32, by revert c; decide +kernel⟩
  | 3 => ⟨k0_off55 c 768#32, by revert c; decide +kernel⟩
variable (j : Fin 4)
/-- The blocks of the quarter `j` after the own. -/
def bj : ∀ (s : Fin 4) (h : Fin 2), BOff (qj c j) s h
  | 0, 0 => ⟨k0_off15 c (BitVec.ofNat 32 j.val), by revert c j; decide +kernel⟩
  | 0, 1 => ⟨k0_off16 c (BitVec.ofNat 32 j.val), by revert c j; decide +kernel⟩
  | 1, 0 => ⟨k0_off17 c (BitVec.ofNat 32 j.val), by revert c j; decide +kernel⟩
  | 1, 1 => ⟨k0_off18 c (BitVec.ofNat 32 j.val), by revert c j; decide +kernel⟩
  | 2, 0 => ⟨k0_off19 c (BitVec.ofNat 32 j.val), by revert c j; decide +kernel⟩
  | 2, 1 => ⟨k0_off20 c (BitVec.ofNat 32 j.val), by revert c j; decide +kernel⟩
  | 3, 0 => ⟨k0_off21 c (BitVec.ofNat 32 j.val), by revert c j; decide +kernel⟩
  | 3, 1 => ⟨k0_off22 c (BitVec.ofNat 32 j.val), by revert c j; decide +kernel⟩
/-- The output tiles of the quarter `j` after the own, in the own half. -/
def toj : ∀ s : Fin 4, TOff (tno (zc c) (qj c j) s)
  | 0 => ⟨k0_off23 c (BitVec.ofNat 32 j.val) 0#32, by revert c j; decide +kernel⟩
  | 1 => ⟨k0_off23 c (BitVec.ofNat 32 j.val) 256#32, by revert c j; decide +kernel⟩
  | 2 => ⟨k0_off23 c (BitVec.ofNat 32 j.val) 512#32, by revert c j; decide +kernel⟩
  | 3 => ⟨k0_off23 c (BitVec.ofNat 32 j.val) 768#32, by revert c j; decide +kernel⟩
theorem wj_eq : ∀ (c : Dev nD) (j : Fin 4), j ≠ 0 → k0_off14 c (BitVec.ofNat 32 j.val) = ![0, 1024 * (qj c j).val] := by decide +kernel
/-- The weights of the quarter `j` after the own. -/
def wj (hj : j ≠ 0) : QOff (qj c j) := ⟨k0_off14 c (BitVec.ofNat 32 j.val), wj_eq c j hj⟩

/-- The destination of the sends across `z`. -/
def nz : Fin 4 → Dev nD
  | 0 => ⟨k0_dev4 c, k0_dev4_lt c⟩
  | 1 => ⟨k0_dev5 c, k0_dev5_lt c⟩
  | 2 => ⟨k0_dev6 c, k0_dev6_lt c⟩
  | 3 => ⟨k0_dev7 c, k0_dev7_lt c⟩
theorem nz_eq : ∀ (c : Dev nD) (s : Fin 4), nz c s = zp c := by decide +kernel
/-- The destination of the strips sent across `x`. -/
def nx : Fin 4 → Dev nD
  | 0 => ⟨k0_dev9 c, k0_dev9_lt c⟩
  | 1 => ⟨k0_dev11 c, k0_dev11_lt c⟩
  | 2 => ⟨k0_dev13 c, k0_dev13_lt c⟩
  | 3 => ⟨k0_dev15 c, k0_dev15_lt c⟩
theorem nx_eq : ∀ (c : Dev nD) (s : Fin 4), nx c s = xp c := by decide +kernel
/-- The destination of the strips sent across `y`. -/
def ny : Fin 4 → Dev nD
  | 0 => ⟨k0_dev10 c, k0_dev10_lt c⟩
  | 1 => ⟨k0_dev12 c, k0_dev12_lt c⟩
  | 2 => ⟨k0_dev14 c, k0_dev14_lt c⟩
  | 3 => ⟨k0_dev16 c, k0_dev16_lt c⟩
theorem ny_eq : ∀ (c : Dev nD) (s : Fin 4), ny c s = yp c := by decide +kernel
/-- The destination of the blocks forwarded across `y`. -/
def fy : Fin 4 → Dev nD
  | 0 => ⟨k0_dev17 c, k0_dev17_lt c⟩
  | 1 => ⟨k0_dev19 c, k0_dev19_lt c⟩
  | 2 => ⟨k0_dev21 c, k0_dev21_lt c⟩
  | 3 => ⟨k0_dev23 c, k0_dev23_lt c⟩
theorem fy_eq : ∀ (c : Dev nD) (s : Fin 4), fy c s = yp c := by decide +kernel
/-- The destination of the blocks forwarded across `x`. -/
def fx : Fin 4 → Dev nD
  | 0 => ⟨k0_dev18 c, k0_dev18_lt c⟩
  | 1 => ⟨k0_dev20 c, k0_dev20_lt c⟩
  | 2 => ⟨k0_dev22 c, k0_dev22_lt c⟩
  | 3 => ⟨k0_dev24 c, k0_dev24_lt c⟩
theorem fx_eq : ∀ (c : Dev nD) (s : Fin 4), fx c s = xp c := by decide +kernel
end

/-- The output tiles of quarter `j` of the own half. -/
def halfB (c : Dev nD) (j : Fin 4) (inv : FVec F S256x1 .f32) : TP F PUnit := do
  outB eM (bj c j 0 0) (bj c j 0 1) (toj c j 0) inv
  outB eM (bj c j 1 0) (bj c j 1 1) (toj c j 1) inv
  outB eM (bj c j 2 0) (bj c j 2 1) (toj c j 2) inv
  outB eM (bj c j 3 0) (bj c j 3 1) (toj c j 3) inv

/-- The entry: announce to the three neighbours, wait for them, read the activations. -/
def startB (c : Dev nD) : TP F (Vec F S256x512 .bf16) := do
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semWaitWord barS 3#32
  Prog.lift (.load xM (Rect.unit (s := S256x512) ![0, 0] S256x512.size inb_S256x512_S256x512_0_0).toLoadRect (View.loadsAt_vmem h_S256x512))

/-- One strip of the own quarter. -/
def ownS (c : Dev nD) (s : Fin 4) (x : Vec F S256x512 .bf16) : TP F (FVec F S256x256 .f32) :=
  ownB s (uE c s) (bE c s 0) (bE c s 1) (zE c s) (nz c s) x
/-- A strip received across `z` passed on. -/
def passS (c : Dev nD) (s : Fin 4) : TP F PUnit := passB s (zE c s) (nx c s) (ny c s)
/-- An output tile of the own quarter in the other half. -/
def tileS (c : Dev nD) (s : Fin 4) (inv : FVec F S256x1 .f32) : TP F PUnit := outB rM (bE c s 0) (bE c s 1) (tE c s) inv
/-- A strip of each neighbour received, forwarded in part, and written out. -/
def hopS (c : Dev nD) (s : Fin 4) (inv : FVec F S256x1 .f32) : TP F PUnit := do
  fwdB s 0 1 (zE c s) (hx c s) (fy c s) (bx c s 0) (bx c s 1) (tx c s) inv
  fwdB s 1 0 (zE c s) (hy c s) (fx c s) (by_ c s 0) (by_ c s 1) (ty c s) inv
/-- A strip of the opposite corner received and written out. -/
def finS (c : Dev nD) (s : Fin 4) (inv : FVec F S256x1 .f32) : TP F PUnit :=
  finB s (h1 c s) (h0 c s) (bd c s 0) (bd c s 1) (td c s) inv
/-- A send across `z` awaited. -/
def awayS (c : Dev nD) (s : Fin 4) : TP F PUnit := wtZ rM eM rW eW (zE c s) (zsS s)
/-- The other sends of a strip awaited. -/
def endS (c : Dev nD) (s : Fin 4) : TP F PUnit := endB s (zE c s) (hx c s) (hy c s)

/-- The exponentials and their row sums, and the first sends. -/
def compB (c : Dev nD) (x : Vec F S256x512 .bf16) : TP F (FVec F S256x1 .f32 × FVec F S256x1024 .f32) := do
  let e0 ← ownS c 0 x
  let e1 ← ownS c 1 x
  let e2 ← ownS c 2 x
  let e3 ← ownS c 3 x
  let t1 ← othB (wj c 1 (by decide)) (bj c 1) x
  let t2 ← othB (wj c 2 (by decide)) (bj c 2) x
  let t3 ← othB (wj c 3 (by decide)) (bj c 3) x
  pure (k0_pay48 (k0_pay48 (k0_pay8 (k0_pay8 (k0_pay8 (k0_pay8 k0_pay2 e0) e1) e2) e3) t1) t2, t3)

/-- The strips received across `z` passed on, and the reciprocal of the whole row sums. -/
def midB (c : Dev nD) (acc : FVec F S256x1 .f32) : TP F (FVec F S256x1 .f32) := do
  passS c 0
  passS c 1
  passS c 2
  passS c 3
  sumB acc

/-- The output tiles of the own half, and of the own quarter of the other half. -/
def tileB (c : Dev nD) (inv : FVec F S256x1 .f32) : TP F PUnit := do
  halfB c 0 inv
  halfB c 1 inv
  halfB c 2 inv
  halfB c 3 inv
  tileS c 0 inv
  tileS c 1 inv
  tileS c 2 inv
  tileS c 3 inv

/-- The strips of the neighbours received, forwarded, and written out. -/
def hopB (c : Dev nD) (inv : FVec F S256x1 .f32) : TP F PUnit := do
  hopS c 0 inv
  hopS c 1 inv
  hopS c 2 inv
  hopS c 3 inv

/-- The opposite corner's strips received and written out; the sends awaited. -/
def lastB (c : Dev nD) (inv : FVec F S256x1 .f32) : TP F PUnit := do
  finS c 0 inv
  finS c 1 inv
  finS c 2 inv
  finS c 3 inv
  awayS c 0
  awayS c 1
  awayS c 2
  awayS c 3
  Prog.lift (.waitDma2 (stS 0) sV1 sV0 ((View.wordExact_bits rfl).reshape _ _) ((View.wordExact_bits rfl).reshape _ _))
  endS c 0
  endS c 1
  endS c 2
  endS c 3

/-- The whole body on device `c`. -/
def softB (c : Dev nD) : TP F PUnit := do
  let x ← startB c
  let a ← compB c x
  statB ⟨k0_dev8 c, k0_dev8_lt c⟩ a.1 a.2
  let inv ← midB c (k0_pay60 a.1 a.2)
  tileB c inv
  hopB c inv
  lastB c inv

/-- The printed body is that composition. -/
theorem body_eq : cc0_body (F := F) xM (Memref.isWhole_whole _) wM (Memref.isWhole_whole _) oM (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 = (Prog.lift .deviceId >>= softB (F := F)) := by
  chain_rfl

end Cert.KernelIdeal.Soft
-- ==== Proof.Content.lean ====
/- What each buffer holds: the sets of indices that the steps touch, and the functions that give the contents. -/
module

public import proofs.«01_k».proof.Proof.Prog
public import Idealize.ShloMosaic.Lib.ValueIdx
public import Idealize.ShloMosaic.Lib.Pipeline.Value

@[expose] public section

set_option maxRecDepth 16384

noncomputable section

namespace Cert.KernelIdeal.Soft

open Idealize.ShloMosaic Idealize.ShloMosaic.TcCoe
open Idealize.SL.Sem Idealize.ShloMosaic.ValueIdx
open Cert.KernelIdeal.Gen

/-! ## Sets of indices -/

abbrev BI := S4x4x2x256x128.Idx
/-- The block of quarter `a`, strip `s`, part `h`. -/
def bset (a s : Fin 4) (h : Fin 2) : Finset BI :=
  Finset.univ.filter fun i => (i 0).val = a.val ∧ (i 1).val = s.val ∧ (i 2).val = h.val
/-- The strip `s` of quarter `a`. -/
def zset (a s : Fin 4) : Finset BI := Finset.univ.filter fun i => (i 0).val = a.val ∧ (i 1).val = s.val
/-- The quarter `a`. -/
def aset (a : Fin 4) : Finset BI := Finset.univ.filter fun i => (i 0).val = a.val
/-- The output tile `t`. -/
def tset (t : Fin 32) : Finset S256x8192.Idx := Finset.univ.filter fun i => (i 1).val / 256 = t.val
/-- The row `r` of the buffer of row sums. -/
def sset (r : Fin 2) : Finset S2x256x8.Idx := Finset.univ.filter fun i => (i 0).val = r.val

theorem mem_bset {a s h} {i : BI} : i ∈ bset a s h ↔ (i 0).val = a.val ∧ (i 1).val = s.val ∧ (i 2).val = h.val := by simp [bset]
theorem mem_zset {a s} {i : BI} : i ∈ zset a s ↔ (i 0).val = a.val ∧ (i 1).val = s.val := by simp [zset]
theorem mem_aset {a} {i : BI} : i ∈ aset a ↔ (i 0).val = a.val := by simp [aset]
theorem mem_tset {t} {i : S256x8192.Idx} : i ∈ tset t ↔ (i 1).val / 256 = t.val := by simp [tset]
theorem mem_sset {r} {i : S2x256x8.Idx} : i ∈ sset r ↔ (i 0).val = r.val := by simp [sset]

theorem bset_sub_zset (a s h) : bset a s h ⊆ zset a s := fun _ hi => mem_zset.2 ⟨(mem_bset.1 hi).1, (mem_bset.1 hi).2.1⟩
theorem zset_sub_aset (a s) : zset a s ⊆ aset a := fun _ hi => mem_aset.2 (mem_zset.1 hi).1
theorem bset_sub_aset (a s h) : bset a s h ⊆ aset a := fun _ hi => mem_aset.2 (mem_bset.1 hi).1

theorem BOff.set_eq {a s h} (b : BOff a s h) : b.rect.set = bset a s h := by
  obtain ⟨_, rfl⟩ := b
  ext i
  rw [mem_bset, Rect.mem_set_unit]
  constructor
  · intro H
    have h0 := H 0; have h1 := H 1; have h2 := H 2
    simp [S1x1x1x256x128] at h0 h1 h2
    omega
  · rintro ⟨e0, e1, e2⟩ k
    have h3 := (i 3).isLt; have h4 := (i 4).isLt
    simp [S4x4x2x256x128] at h3 h4
    fin_cases k <;> simp [S1x1x1x256x128] <;> omega

theorem ZOff.set_eq {a s} (b : ZOff a s) : b.rect.set = zset a s := by
  obtain ⟨_, rfl⟩ := b
  ext i
  rw [mem_zset, Rect.mem_set_unit]
  constructor
  · intro H
    have h0 := H 0; have h1 := H 1
    simp [S1x1x2x256x128] at h0 h1
    omega
  · rintro ⟨e0, e1⟩ k
    have h3 := (i 3).isLt; have h4 := (i 4).isLt; have h2 := (i 2).isLt
    simp [S4x4x2x256x128] at h2 h3 h4
    fin_cases k <;> simp [S1x1x2x256x128] <;> omega

theorem TOff.set_eq {t} (b : TOff t) : b.rect.set = tset t := by
  obtain ⟨_, rfl⟩ := b
  ext i
  rw [mem_tset, Rect.mem_set_unit]
  constructor
  · intro H
    have h1 := H 1
    simp [S256x256] at h1
    omega
  · intro e k
    have h0 := (i 0).isLt; have h1 := (i 1).isLt
    simp [S256x8192] at h0 h1
    fin_cases k <;> simp [S256x256] <;> omega

abbrev sR0 : Rect S2x256x8 := Rect.unit (s := S2x256x8) ![0, 0, 0] S1x256x8.size inb_S2x256x8_S1x256x8_0_0_0
abbrev sR1 : Rect S2x256x8 := Rect.unit (s := S2x256x8) ![1, 0, 0] S1x256x8.size inb_S2x256x8_S1x256x8_1_0_0
abbrev sR1' : Rect S2x256x8 := Rect.unit (s := S2x256x8) ![1, 0, 0] S1x256x1.size inb_S2x256x8_S1x256x1_1_0_0

theorem sR0_set : sR0.set = sset 0 := by
  ext i
  rw [mem_sset, Rect.mem_set_unit]
  constructor
  · intro H
    have h0 := H 0
    simp [S1x256x8] at h0
    simp [h0]
  · intro e k
    have h1 := (i 1).isLt; have h2 := (i 2).isLt
    simp [S2x256x8] at h1 h2
    fin_cases k <;> simp [S1x256x8] at e ⊢ <;> omega
theorem sR1_set : sR1.set = sset 1 := by
  ext i
  rw [mem_sset, Rect.mem_set_unit]
  constructor
  · intro H
    have h0 := H 0
    simp [S1x256x8] at h0
    simp; omega
  · intro e k
    have h1 := (i 1).isLt; have h2 := (i 2).isLt
    simp [S2x256x8] at h1 h2
    fin_cases k <;> simp [S1x256x8] at e ⊢ <;> omega
theorem sR1'_sub : sR1'.set ⊆ sset 1 := by
  intro i hi
  rw [Rect.mem_set_unit] at hi
  have h0 := hi 0
  simp [S1x256x1] at h0
  rw [mem_sset]; simp; omega

/-! ## Contents -/

variable {F : FTy → Type} [FloatOps F]

/-- A block of a tile buffer's contents. -/
def blk (f : FVec F S4x4x2x256x128 .bf16) (a s : Fin 4) (h : Fin 2) : FVec F S1x1x1x256x128 .bf16 :=
  fun i => f (ix5 a s h (i 3 : Fin 256) (i 4 : Fin 128))
/-- A strip of 256 columns of the weights. -/
def wS (w : Vec F S512x4096 .bf16) (t : Fin 16) : Vec F S512x256 .bf16 :=
  fun i => w (ix2 (i 0 : Fin 512) (⟨256 * t.val + (i 1).val, by have := (i 1).isLt; simp [S512x256] at this; omega⟩ : Fin 4096))
/-- A quarter of the weights. -/
def wQ (w : Vec F S512x4096 .bf16) (a : Fin 4) : Vec F S512x1024 .bf16 :=
  fun i => w (ix2 (i 0 : Fin 512) (⟨1024 * a.val + (i 1).val, by have := (i 1).isLt; simp [S512x1024] at this; omega⟩ : Fin 4096))
/-- A tile of an output. -/
def tile (f : FVec F S256x8192 .f32) (t : Fin 32) : FVec F S256x256 .f32 :=
  fun i => f (ix2 (i 0 : Fin 256) (⟨256 * t.val + (i 1).val, by have := (i 1).isLt; simp [S256x256] at this; omega⟩ : Fin 8192))

/-- A device's own exponentials, rounded: from its activations and its half of the weights. -/
def ebOf (c : Dev nD) (x : Vec F S256x512 .bf16) (w : Vec F S512x4096 .bf16) : FVec F S4x4x2x256x128 .bf16 := fun i =>
  if (i 0).val = (qo c).val then
    k0_pay4 x (wS w ⟨4 * (qo c).val + (i 1).val, by have := (i 1).isLt; simp [S4x4x2x256x128] at this; omega⟩)
      (ix2 (i 3 : Fin 256) (⟨128 * (i 2).val + (i 4).val, by have := (i 2).isLt; have := (i 4).isLt; simp [S4x4x2x256x128] at *; omega⟩ : Fin 256))
  else
    k0_pay50 (k0_pay1 x) (wQ w (i 0 : Fin 4))
      (ix2 (i 3 : Fin 256) (⟨256 * (i 1).val + 128 * (i 2).val + (i 4).val, by have := (i 1).isLt; have := (i 2).isLt; have := (i 4).isLt; simp [S4x4x2x256x128] at *; omega⟩ : Fin 1024))

/-- A device's row sums before the last quarter, and the last quarter's exponentials. -/
def acOf (c : Dev nD) (x : Vec F S256x512 .bf16) (w : Vec F S512x4096 .bf16) : FVec F S256x1 .f32 × FVec F S256x1024 .f32 :=
  (k0_pay48 (k0_pay48 (k0_pay8 (k0_pay8 (k0_pay8 (k0_pay8 k0_pay2
      (k0_pay3 x (wS w ⟨4 * (qo c).val + (0 : Fin 4).val, by omega⟩)))
      (k0_pay3 x (wS w ⟨4 * (qo c).val + (1 : Fin 4).val, by omega⟩)))
      (k0_pay3 x (wS w ⟨4 * (qo c).val + (2 : Fin 4).val, by omega⟩)))
      (k0_pay3 x (wS w ⟨4 * (qo c).val + (3 : Fin 4).val, by omega⟩)))
      (k0_pay49 (k0_pay1 x) (wQ w (qj c 1))))
      (k0_pay49 (k0_pay1 x) (wQ w (qj c 2))),
    k0_pay49 (k0_pay1 x) (wQ w (qj c 3)))

/-- The arguments of all devices. -/
structure Args (F : FTy → Type) [FloatOps F] where
  x : Dev nD → Vec F S256x512 .bf16
  w : Dev nD → Vec F S512x4096 .bf16

namespace Args
variable (A : Args F)
/-- The contents of the buffer of exponentials. -/
def EB (c : Dev nD) : FVec F S4x4x2x256x128 .bf16 := ebOf c (A.x c) (A.w c)
/-- The device that computes quarter `a` of the half that `c` does not hold. -/
def owner (c : Dev nD) (a : Fin 4) : Dev nD := ⟨2 * a.val + (1 - c.val % 2), by simp only [nD]; omega⟩
/-- The contents of the buffer of received exponentials. -/
def XB (c : Dev nD) : FVec F S4x4x2x256x128 .bf16 := fun i => A.EB (owner c (i 0 : Fin 4)) i
/-- A device's row sums in their parts. -/
def AC (c : Dev nD) : FVec F S256x1 .f32 × FVec F S256x1024 .f32 := acOf c (A.x c) (A.w c)
/-- The row sums that a device sends, at either row of its partner's or its own buffer. -/
def SB (c : Dev nD) : FVec F S2x256x8 .f32 := fun i => k0_pay61 (A.AC c).1 (A.AC c).2 (ix3 (0 : Fin 1) (i 1 : Fin 256) (i 2 : Fin 8))
/-- The reciprocal of the whole row sums. -/
def INV (c : Dev nD) : FVec F S256x1 .f32 :=
  k0_pay62 (k0_pay60 (A.AC c).1 (A.AC c).2) (fun i => A.SB (zp c) (ix3 (1 : Fin 2) (i 1 : Fin 256) (0 : Fin 8)))
/-- The tile `t` of the output. -/
def OT (c : Dev nD) (t : Fin 32) : FVec F S256x256 .f32 :=
  if t.val / 16 = c.val % 2 then
    k0_pay63 (A.INV c) (blk (A.EB c) ⟨t.val / 4 % 4, by omega⟩ ⟨t.val % 4, by omega⟩ 0) (blk (A.EB c) ⟨t.val / 4 % 4, by omega⟩ ⟨t.val % 4, by omega⟩ 1)
  else
    k0_pay63 (A.INV c) (blk (A.XB c) ⟨t.val / 4 % 4, by omega⟩ ⟨t.val % 4, by omega⟩ 0) (blk (A.XB c) ⟨t.val / 4 % 4, by omega⟩ ⟨t.val % 4, by omega⟩ 1)
/-- The whole output. -/
def OUT (c : Dev nD) : FVec F S256x8192 .f32 := fun i =>
  A.OT c ⟨(i 1).val / 256, by have := (i 1).isLt; simp [S256x8192] at this; omega⟩ (ix2 (i 0 : Fin 256) (⟨(i 1).val % 256, by omega⟩ : Fin 256))
end Args

/-! ## Reads -/

theorem read_e {a s h} (b : BOff a s h) (f : FVec F S4x4x2x256x128 .bf16) : (eM.access b.rect).read (Elt F) f = blk f a s h := by
  obtain ⟨_, rfl⟩ := b
  funext j
  refine congrArg f (funext fun k => Fin.ext ?_)
  have h0 := (j 0).isLt; have h1 := (j 1).isLt; have h2 := (j 2).isLt
  simp [S1x1x1x256x128] at h0 h1 h2
  match k with
  | ⟨0, _⟩ => show a.val + 1 * (j 0).val = a.val; omega
  | ⟨1, _⟩ => show s.val + 1 * (j 1).val = s.val; omega
  | ⟨2, _⟩ => show h.val + 1 * (j 2).val = h.val; omega
  | ⟨3, _⟩ => show 0 + 1 * (j 3).val = (j 3).val; omega
  | ⟨4, _⟩ => show 0 + 1 * (j 4).val = (j 4).val; omega
theorem read_r {a s h} (b : BOff a s h) (f : FVec F S4x4x2x256x128 .bf16) : (rM.access b.rect).read (Elt F) f = blk f a s h := read_e b f
theorem read_u {t} (u : UOff t) (w : Vec F S512x4096 .bf16) : (wM.access u.rect).read (Elt F) w = wS w t := by
  obtain ⟨_, rfl⟩ := u
  funext j
  refine congrArg w (funext fun k => Fin.ext ?_)
  match k with
  | ⟨0, _⟩ => show 0 + 1 * (j 0).val = (j 0).val; omega
  | ⟨1, _⟩ => show 256 * t.val + 1 * (j 1).val = 256 * t.val + (j 1).val; omega
theorem read_q {a} (u : QOff a) (w : Vec F S512x4096 .bf16) : (wM.access u.rect).read (Elt F) w = wQ w a := by
  obtain ⟨_, rfl⟩ := u
  funext j
  refine congrArg w (funext fun k => Fin.ext ?_)
  match k with
  | ⟨0, _⟩ => show 0 + 1 * (j 0).val = (j 0).val; omega
  | ⟨1, _⟩ => show 1024 * a.val + 1 * (j 1).val = 1024 * a.val + (j 1).val; omega
theorem read_t {t} (o : TOff t) (f : FVec F S256x8192 .f32) : (oM.access o.rect).read (Elt F) f = tile f t := by
  obtain ⟨_, rfl⟩ := o
  funext j
  refine congrArg f (funext fun k => Fin.ext ?_)
  match k with
  | ⟨0, _⟩ => show 0 + 1 * (j 0).val = (j 0).val; omega
  | ⟨1, _⟩ => show 256 * t.val + 1 * (j 1).val = 256 * t.val + (j 1).val; omega
theorem read_s0 (f : FVec F S2x256x8 .f32) : (sM.access sR0).read (Elt F) f = fun i => f (ix3 (0 : Fin 2) (i 1 : Fin 256) (i 2 : Fin 8)) := by
  funext j
  refine congrArg f (funext fun k => Fin.ext ?_)
  have h0 := (j 0).isLt
  simp [S1x256x8] at h0
  match k with
  | ⟨0, _⟩ => show 0 + 1 * (j 0).val = 0; omega
  | ⟨1, _⟩ => show 0 + 1 * (j 1).val = (j 1).val; omega
  | ⟨2, _⟩ => show 0 + 1 * (j 2).val = (j 2).val; omega
theorem read_s1 (f : FVec F S2x256x8 .f32) : (sM.access sR1').read (Elt F) f = fun i => f (ix3 (1 : Fin 2) (i 1 : Fin 256) (0 : Fin 8)) := by
  funext j
  refine congrArg f (funext fun k => Fin.ext ?_)
  have h0 := (j 0).isLt; have h2 := (j 2).isLt
  simp [S1x256x1] at h0 h2
  match k with
  | ⟨0, _⟩ => show 1 + 1 * (j 0).val = 1; omega
  | ⟨1, _⟩ => show 0 + 1 * (j 1).val = (j 1).val; omega
  | ⟨2, _⟩ => show 0 + 1 * (j 2).val = 0; omega

/-! ## Stored and received contents -/

/-- A store of what a function holds on a set leaves that function there. -/
theorem write_on {sig : RefSig} {κ : Kind} {sp : Space} {s : Shape} {e : EltTy} (v : View sig κ sp s e) {Val : EltTy → Type} (f g : v.ty.Contents Val) (w : s.Idx → Val e)
    (hw : v.read Val g = w) : ∀ i ∈ v.set, v.write Val f w Finset.univ i = g i := by
  subst hw
  intro i hi
  rw [View.write_read_eq_piecewise]
  exact Finset.piecewise_eq_of_mem _ _ _ hi

theorem land_er {a s} (z : ZOff a s) (f g : FVec F S4x4x2x256x128 .bf16) :
    ∀ i ∈ zset a s, (zV rM z).view.write (Elt F) f ((zV eM z).view.read (Elt F) g) Finset.univ i = g i := by
  intro i hi
  refine write_on (Val := Elt F) (zV rM z).view f g _ rfl i ?_
  rw [show (zV rM z).view.set = zset a s from (View.set_reshape _ _).trans ((View.set_slice_whole _ _).trans z.set_eq)]
  exact hi
theorem land_rr {a s} (z : ZOff a s) (f g : FVec F S4x4x2x256x128 .bf16) :
    ∀ i ∈ zset a s, (zV rM z).view.write (Elt F) f ((zV rM z).view.read (Elt F) g) Finset.univ i = g i := land_er z f g
theorem land_h {a s h} (b : BOff a s h) (f g : FVec F S4x4x2x256x128 .bf16) :
    ∀ i ∈ bset a s h, (hV rM b).view.write (Elt F) f ((hV rM b).view.read (Elt F) g) Finset.univ i = g i := by
  intro i hi
  refine write_on (Val := Elt F) (hV rM b).view f g _ rfl i ?_
  rw [show (hV rM b).view.set = bset a s h from (View.set_reshape _ _).trans ((View.set_slice_whole _ _).trans b.set_eq)]
  exact hi

theorem zV_e_set {a s} (z : ZOff a s) : (zV eM z).view.set = zset a s := (View.set_reshape _ _).trans ((View.set_slice_whole _ _).trans z.set_eq)
theorem zV_r_set {a s} (z : ZOff a s) : (zV rM z).view.set = zset a s := (View.set_reshape _ _).trans ((View.set_slice_whole _ _).trans z.set_eq)
theorem hV_r_set {a s h} (b : BOff a s h) : (hV rM b).view.set = bset a s h := (View.set_reshape _ _).trans ((View.set_slice_whole _ _).trans b.set_eq)
theorem sV0_set : (sV0).view.set = sset 0 := (View.set_reshape _ _).trans ((View.set_slice_whole _ _).trans sR0_set)
theorem sV1_set : (sV1).view.set = sset 1 := (View.set_reshape _ _).trans ((View.set_slice_whole _ _).trans sR1_set)
theorem acc_e {a s h} (b : BOff a s h) : (eM.access b.rect).set = bset a s h := (View.set_slice_whole _ _).trans b.set_eq
theorem acc_r {a s h} (b : BOff a s h) : (rM.access b.rect).set = bset a s h := (View.set_slice_whole _ _).trans b.set_eq
theorem acc_o {t} (o : TOff t) : (oM.access o.rect).set = tset t := (View.set_slice_whole _ _).trans o.set_eq
theorem acc_s0 : (sM.access sR0).set = sset 0 := (View.set_slice_whole _ _).trans sR0_set
theorem acc_s1 : (sM.access sR1').set ⊆ sset 1 := ((View.set_slice_whole _ _).trans_subset sR1'_sub)

theorem land_s (A : Args F) (c : Dev nD) (f : FVec F S2x256x8 .f32) :
    ∀ i ∈ sset 1, (sV1).view.write (Elt F) f ((sV0).view.read (Elt F) (A.SB c)) Finset.univ i = A.SB c i := by
  intro i hi
  refine write_on (Val := Elt F) (sV1).view f (A.SB c) _ ?_ i (by rw [sV1_set]; exact hi)
  funext j
  refine congrArg (k0_pay61 (A.AC c).1 (A.AC c).2) ?_
  funext k
  match k with
  | ⟨0, _⟩ => rfl
  | ⟨1, _⟩ => rfl
  | ⟨2, _⟩ => rfl

end Cert.KernelIdeal.Soft
-- ==== Proof.Schedule.lean ====
/- The exchange protocol: which semaphore is paid by whom, with how much, and what each payment hands over. -/
module

public import proofs.«01_k».proof.Proof.Content
public import Idealize.ShloMosaic.Lib.Rounds

@[expose] public section

set_option maxRecDepth 16384

noncomputable section

namespace Cert.KernelIdeal.Soft

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## Neighbours -/

/-- The neighbour across `x` (0) or across `y` (1). -/
def nb (r : Fin 2) (c : Dev nD) : Dev nD := if r = 0 then xp c else yp c
/-- The neighbour of barrier duty `d`. -/
def nbar (d : Fin 3) (c : Dev nD) : Dev nD := if d = 0 then zp c else if d = 1 then xp c else yp c
/-- The other direction. -/
def opp (r : Fin 2) : Fin 2 := if r = 0 then 1 else 0

theorem zp_zp : ∀ c : Dev nD, zp (zp c) = c := by decide
theorem nb_nb : ∀ (r : Fin 2) (c : Dev nD), nb r (nb r c) = c := by decide
theorem nbar_nbar : ∀ (r : Fin 3) (c : Dev nD), nbar r (nbar r c) = c := by decide
theorem qo_zp : ∀ c : Dev nD, qo (zp c) = qo c := by decide
theorem opp_opp : ∀ r, opp (opp r) = r := by decide

/-! ## The semaphores by kind -/

/-- What a DMA semaphore of the kernel is for. -/
inductive Kd where
  | no | zs (s : Fin 4) | zr (s : Fin 4) | st0 | st1
  | ps (r : Fin 2) (s : Fin 4) | pr (r : Fin 2) (s : Fin 4) | fs (r : Fin 2) (s : Fin 4) | fr (r : Fin 2) (s : Fin 4)
  deriving DecidableEq

/-- The kind of a DMA semaphore. -/
def kd (q : DmaSem sig) : Kd :=
  let n : ℕ := Fin.val (n := 45) q
  if n < 3 then .no else if n < 7 then .zs ⟨(n - 3) % 4, by omega⟩ else if n < 11 then .zr ⟨(n - 7) % 4, by omega⟩
  else if n = 11 then .st0 else if n = 12 then .st1
  else if n < 21 then .ps ⟨(n - 13) / 4 % 2, by omega⟩ ⟨(n - 13) % 4, by omega⟩
  else if n < 29 then .pr ⟨(n - 21) / 4 % 2, by omega⟩ ⟨(n - 21) % 4, by omega⟩
  else if n < 37 then .fs ⟨(n - 29) / 4 % 2, by omega⟩ ⟨(n - 29) % 4, by omega⟩
  else .fr ⟨(n - 37) / 4 % 2, by omega⟩ ⟨(n - 37) % 4, by omega⟩

theorem kd_zs : ∀ s, kd (zsS s) = .zs s := by decide
theorem kd_zr : ∀ s, kd (zrS s) = .zr s := by decide
theorem kd_st0 : kd (stS 0) = .st0 := by decide
theorem kd_st1 : kd (stS 1) = .st1 := by decide
theorem kd_ps : ∀ r s, kd (psS r s) = .ps r s := by decide
theorem kd_pr : ∀ r s, kd (prS r s) = .pr r s := by decide
theorem kd_fs : ∀ r s, kd (fsS r s) = .fs r s := by decide
theorem kd_fr : ∀ r s, kd (frS r s) = .fr r s := by decide

/-- The device whose semaphore of a kind a device pays. -/
def kpd : Kd → Dev nD → Dev nD
  | .zr _, c | .st1, c => zp c
  | .pr r _, c | .fr r _, c => nb r c
  | _, c => c
theorem kpd_kpd (k : Kd) (c : Dev nD) : kpd k (kpd k c) = c := by
  cases k <;> first | rfl | exact zp_zp c | exact nb_nb _ c

/-- The three transfer sizes: a strip, the row sums, a block. -/
abbrev NZ : ℕ := cc0_scratch1.dmaCredit S2x256x128 .bf16
abbrev NS : ℕ := cc0_scratch2.dmaCredit S256x8 .f32
abbrev NH : ℕ := cc0_scratch1.dmaCredit S256x128 .bf16
def kamt : Kd → ℕ
  | .no => 1 | .zs _ | .zr _ | .ps _ _ | .pr _ _ => NZ | .st0 | .st1 => NS | .fs _ _ | .fr _ _ => NH

theorem NZ_e {a s} (z : ZOff a s) : (zV eM z).view.dmaCredit = NZ := rfl
theorem NZ_r {a s} (z : ZOff a s) : (zV rM z).view.dmaCredit = NZ := rfl
theorem NH_r {a s h} (b : BOff a s h) : (hV rM b).view.dmaCredit = NH := rfl
theorem NS_0 : (sV0).view.dmaCredit = NS := rfl
theorem NS_1 : (sV1).view.dmaCredit = NS := rfl
theorem NZ_pos : 0 < NZ := sig.dmaCredit_pos _ _ _ _ _ (by decide)
theorem NS_pos : 0 < NS := sig.dmaCredit_pos _ _ _ _ _ (by decide)
theorem NH_pos : 0 < NH := sig.dmaCredit_pos _ _ _ _ _ (by decide)
theorem kamt_pos (k : Kd) : 0 < kamt k := by
  cases k <;> first | exact NZ_pos | exact NS_pos | exact NH_pos | exact Nat.one_pos

/-- The level of a kind: a wait is for a level below every level still owed. -/
def klv : Kd → ℕ
  | .zr _ => 2 | .st1 => 3 | .pr _ _ => 4 | .fr _ _ => 5 | _ => 0

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Held parts of the scratch buffers -/

abbrev BC (F : FTy → Type) [FloatOps F] := FVec F S4x4x2x256x128 .bf16
abbrev eP (c : Dev nD) (S : Finset BI) (q : PosShare TreeShare) (f : BC F) : sProp 𝕄 := ((c : Thread nD τ).loc cc0_scratch0) ↦[S]{q} f
abbrev rP (c : Dev nD) (S : Finset BI) (q : PosShare TreeShare) (f : BC F) : sProp 𝕄 := ((c : Thread nD τ).loc cc0_scratch1) ↦[S]{q} f
abbrev sP (c : Dev nD) (S : Finset S2x256x8.Idx) (q : PosShare TreeShare) (f : FVec F S2x256x8 .f32) : sProp 𝕄 := ((c : Thread nD τ).loc cc0_scratch2) ↦[S]{q} f
/-- A part of the receive buffer at some contents. -/
def anyR (c : Dev nD) (S : Finset BI) : sProp 𝕄 := iprop(∃ f : BC F, rP c S fullShare f)
def anyS (c : Dev nD) (S : Finset S2x256x8.Idx) : sProp 𝕄 := iprop(∃ f : FVec F S2x256x8 .f32, sP c S fullShare f)

/-- The shares of a strip lent to its two sends. -/
def psh (r : Fin 2) : PosShare TreeShare := if r = 0 then fullShare.left else fullShare.right.left

variable (A : Args F)

/-- What the landing at a semaphore of a kind hands to its owner. -/
def kpay (c : Dev nD) : Kd → sProp 𝕄
  | .no => iprop(emp)
  | .zs s => eP c (zset (qo c) s) fullShare.left (A.EB c)
  | .zr s => rP c (zset (qo c) s) fullShare (A.XB c)
  | .st0 => sP c (sset 0) fullShare (A.SB c)
  | .st1 => sP c (sset 1) fullShare (A.SB (zp c))
  | .ps r s => rP c (zset (qo c) s) (psh r) (A.XB c)
  | .pr r s => rP c (zset (qo (nb r c)) s) fullShare (A.XB c)
  | .fs r s => rP c (bset (qo (nb r c)) s r) fullShare.left (A.XB c)
  | .fr r s => rP c (bset (qd c) s (opp r)) fullShare (A.XB c)

/-- The parts of the two neighbours' receive buffers that device `c` is given: to pass on its own quarter's strips,
    and to forward a part of the other neighbour's. -/
def lend (c : Dev nD) (r : Fin 2) (s : Fin 4) : sProp 𝕄 :=
  iprop(anyR (F := F) (nb r c) (zset (qo c) s) ∗ anyR (F := F) (nb r c) (bset (qo (nb (opp r) c)) s (opp r)))
/-- What the three entry signals hand to device `c`. -/
def barPay (c : Dev nD) (d : Fin 3) : sProp 𝕄 :=
  if d = 0 then iprop((bigSep Finset.univ fun s : Fin 4 => anyR (F := F) (zp c) (zset (qo c) s)) ∗ anyS (F := F) (zp c) (sset 1))
  else if d = 1 then bigSep Finset.univ fun s : Fin 4 => lend (F := F) c 0 s
  else bigSep Finset.univ fun s : Fin 4 => lend (F := F) c 1 s

instance anyR_storable (c : Dev nD) (S) : BI.Storable (upEmb : UEmb _ 𝕄) (anyR (F := F) c S) := by unfold anyR; infer_instance
instance anyS_storable (c : Dev nD) (S) : BI.Storable (upEmb : UEmb _ 𝕄) (anyS (F := F) c S) := by unfold anyS; infer_instance
instance lend_storable (c : Dev nD) (r s) : BI.Storable (upEmb : UEmb _ 𝕄) (lend (F := F) c r s) := by unfold lend; infer_instance
instance barPay_storable (c : Dev nD) (d) : BI.Storable (upEmb : UEmb _ 𝕄) (barPay (F := F) c d) := by
  unfold barPay; (repeat' split) <;> infer_instance
instance kpay_storable (c : Dev nD) (k) : BI.Storable (upEmb : UEmb _ 𝕄) (kpay A c k) := by
  cases k <;> unfold kpay <;> infer_instance

abbrev barCell (c : Dev nD) : GSem nD τ sig := ((c : Thread nD τ), .reg barS)
abbrev dcell (c : Dev nD) (q : DmaSem sig) : GSem nD τ sig := ((c : Thread nD τ), .dma q)

/-- The schedule: every cell has one round; the barrier's has three duties of one unit, a DMA semaphore's one duty of its
    transfer's size. -/
def Rd : Rounds.Schedule (GSem nD τ sig) (Fin 3) 𝕄 where
  duties g r := if r = 0 ∧ g.1.2 = .tc then (match g.2 with | .reg _ => Finset.univ | .dma q => if kd q = .no then ∅ else {0}) else ∅
  unitless _ := False
  amount g _ _ := match g.2 with | .reg _ => 1 | .dma q => kamt (kd q)
  payload g _ d := match g.2 with | .reg _ => barPay g.1.1 d | .dma q => kpay A g.1.1 (kd q)
  amount_pos g _ _ _ := by
    obtain ⟨t, sm⟩ := g
    cases sm with
    | reg _ => exact Nat.one_pos
    | dma q => exact kamt_pos _

instance Rd_payload_storable (g : GSem nD τ sig) (r : ℕ) (d : Fin 3) : BI.Storable (upEmb : UEmb _ 𝕄) ((Rd A).payload g r d) := by
  obtain ⟨t, sm⟩ := g
  cases sm with
  | reg _ => exact barPay_storable _ _
  | dma q => exact kpay_storable A _ _

theorem duties_bar (c : Dev nD) : (Rd A).duties (barCell c) 0 = Finset.univ := rfl
theorem duties_dma (c : Dev nD) (q : DmaSem sig) (h : kd q ≠ .no) : (Rd A).duties (dcell c q) 0 = {0} := if_neg (c := kd q = .no) h
theorem duties_later (g : GSem nD τ sig) : ∀ r, 1 ≤ r → (Rd A).duties g r = ∅ := fun r hr => by
  exact if_neg fun h => by omega
theorem amount_dma (c : Dev nD) (q : DmaSem sig) (d) : (Rd A).amount (dcell c q) 0 d = kamt (kd q) := rfl
theorem expect_bar (c : Dev nD) : (Rd A).expect (barCell c) 0 = 3 := by
  unfold Schedule.expect Schedule.amountOf
  rw [duties_bar, Finset.sum_congr rfl (fun d _ => (rfl : (Rd A).amount (barCell c) 0 d = 1))]
  rfl
theorem expect_dma (c : Dev nD) (q : DmaSem sig) (h : kd q ≠ .no) : (Rd A).expect (dcell c q) 0 = kamt (kd q) := by
  unfold Schedule.expect Schedule.amountOf; rw [duties_dma A c q h, Finset.sum_singleton, amount_dma]
theorem rest_bar (c : Dev nD) : bigSep ((Rd A).duties (barCell c) 0 \ ∅) (fun d => (Rd A).payload (barCell c) 0 d)
    = iprop(barPay (F := F) c 0 ∗ barPay (F := F) c 1 ∗ barPay (F := F) c 2) := by
  rw [Finset.sdiff_empty, duties_bar, bigSep_univ_eq_bigSepL [0, 1, 2] (by decide) (by decide)]
  rfl
theorem rest_dma (c : Dev nD) (q : DmaSem sig) (h : kd q ≠ .no) :
    bigSep ((Rd A).duties (dcell c q) 0 \ ∅) (fun d => (Rd A).payload (dcell c q) 0 d) = kpay A c (kd q) := by
  rw [Finset.sdiff_empty, duties_dma A c q h, bigSep_singleton]; rfl

/-! ## What is owed, and the levels -/

/-- A payment: an entry signal, or a transfer's credit at a receiver. -/
inductive Tk where
  | b (d : Fin 3) | q (s : DmaSem sig)
  deriving DecidableEq

def tcell (c : Dev nD) : Tk → GSem nD τ sig
  | .b d => barCell (nbar d c)
  | .q s => dcell (kpd (kd s) c) s
def tamt : Tk → ℕ | .b _ => 1 | .q s => kamt (kd s)
def tlv : Tk → ℕ | .b _ => 1 | .q s => klv (kd s)
/-- What device `c` owes for one payment, and for a list of them, the first to be made outermost. -/
def tl (c : Dev nD) (t : Tk) : CellTallies nD τ sig Unit := tallyAt (tcell c t) () (tamt t)
def owedL (c : Dev nD) : List Tk → CellTallies nD τ sig Unit
  | [] => 0
  | t :: l => owedL c l + tl c t

/-- The payments in the order they are made. -/
def tailL : List Tk := [.q (frS 1 0), .q (frS 0 0), .q (frS 1 1), .q (frS 0 1), .q (frS 1 2), .q (frS 0 2), .q (frS 1 3), .q (frS 0 3)]
def passL : List Tk := .q (prS 0 0) :: .q (prS 1 0) :: .q (prS 0 1) :: .q (prS 1 1) :: .q (prS 0 2) :: .q (prS 1 2) :: .q (prS 0 3) :: .q (prS 1 3) :: tailL
def statL : List Tk := .q (stS 1) :: passL
def ownL : List Tk := .q (zrS 0) :: .q (zrS 1) :: .q (zrS 2) :: .q (zrS 3) :: statL
def payL : List Tk := .b 0 :: .b 1 :: .b 2 :: ownL

def L (g : GSem nD τ sig) : Finset Unit := if g.1.2 = .tc then {()} else ∅
def slv : SemLoc sig → ℕ | .reg _ => 1 | .dma q => klv (kd q)
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl
theorem L_tcell (c : Dev nD) (t : Tk) : () ∈ L (tcell c t) := by
  cases t <;> exact (L_tc _ _).symm ▸ Finset.mem_singleton_self _
theorem lv_tcell (c : Dev nD) (t : Tk) : lv (tcell c t) () = tlv t := by cases t <;> rfl

theorem owedL_pos {c : Dev nD} {g : GSem nD τ sig} {u : Unit} : ∀ {l : List Tk}, 0 < owedL c l g u → ∃ t ∈ l, g = tcell c t
  | [], h => absurd h (Nat.lt_irrefl 0)
  | t :: l, h => by
    unfold owedL tl at h
    rw [Pi.add_apply, Finsupp.add_apply, tallyAt_apply] at h
    by_cases hg : g = tcell c t
    · exact ⟨t, List.mem_cons_self .., hg⟩
    · rw [if_neg (fun h' => hg h'.1), Nat.add_zero] at h
      obtain ⟨t', ht', e⟩ := owedL_pos h
      exact ⟨t', List.mem_cons_of_mem _ ht', e⟩

/-- A wait at a level below every level owed is allowed. -/
theorem mayWait (c : Dev nD) (sm : SemLoc sig) (l : List Tk) (hl : ∀ t ∈ l, slv sm < tlv t) :
    (levAts L lv : sProp 𝕄) ⊢ MayWait (c : Thread nD τ) sm () (owedL c l) :=
  MayOwe.of_cut (L := L) (lev := lv) (slv sm) (fun p hp => by rw [Finset.mem_singleton.mp hp, L_tc]; exact Finset.mem_singleton_self _)
    (fun g u hg => by obtain ⟨t, -, rfl⟩ := owedL_pos hg; exact L_tcell c t)
    (fun p hp => by rw [Finset.mem_singleton.mp hp]; exact le_refl _)
    (fun g u hg => by obtain ⟨t, ht, rfl⟩ := owedL_pos hg; rw [lv_tcell]; exact hl t ht)

/-- What a device owes, at whatever waits it has made. -/
def ow (c : Dev nD) (l : List Tk) : sProp 𝕄 := iprop(∃ W : Waits sig Unit, owes (c : Thread nD τ) (owedL c l) W)

/-! ## The records of all cells -/

/-- One of a family. -/
theorem one_of {I : Type} [DecidableEq I] {s : Finset I} {i : I} {Φ : I → sProp 𝕄} (h : i ∈ s) : (bigSep s Φ : sProp 𝕄) ⊢ Φ i := bigSep_elim h

/-- The cells of a device: the barrier, then the DMA semaphores. -/
def csem (k : Fin 43) : SemLoc sig := if h : k.val = 0 then .reg barS else .dma ⟨k.val + 2, by have := k.isLt; show _ < 45; omega⟩
abbrev kcell (ck : Dev nD × Fin 43) : GSem nD τ sig := ((ck.1 : Thread nD τ), csem ck.2)

/-- Every cell's invariant, that each is at its round, and the levels. -/
def ctx : sProp 𝕄 :=
  iprop((bigSep Finset.univ fun ck : Dev nD × Fin 43 => iprop(∃ κ : ℕ, cellInv ER (Rd A) κ (kcell ck)))
    ∗ (bigSep Finset.univ fun ck : Dev nD × Fin 43 => reached ER (kcell ck) 0) ∗ levAts L lv)
instance ctx_persistent : BI.Persistent (ctx A) := by unfold ctx; infer_instance

theorem csem_dma (q : DmaSem sig) (h : kd q ≠ .no) : ∃ k, csem k = .dma q := by
  have hq : 3 ≤ Fin.val (n := 45) q := by
    by_contra hlt
    exact h (by unfold kd; exact if_pos (by omega))
  refine ⟨⟨Fin.val (n := 45) q - 2, by have := q.isLt; change _ < 45 at this; omega⟩, ?_⟩
  unfold csem
  rw [dif_neg (by simp; omega)]
  congr 1
  exact Fin.ext (by simp; omega)

theorem ctx_inv_at (c : Dev nD) (k : Fin 43) : ctx A ⊢ (∃ κ : ℕ, cellInv ER (Rd A) κ (kcell (c, k)) : sProp 𝕄) := by
  have h := one_of (F := F) (Φ := fun ck : Dev nD × Fin 43 => (iprop(∃ κ : ℕ, cellInv ER (Rd A) κ (kcell ck)) : sProp 𝕄)) (Finset.mem_univ (c, k))
  unfold ctx
  iintro ⟨H, -, -⟩
  iapply h $$ H
theorem ctx_reached_at (c : Dev nD) (k : Fin 43) : ctx A ⊢ (reached ER (kcell (c, k)) 0 : sProp 𝕄) := by
  have h := one_of (F := F) (Φ := fun ck : Dev nD × Fin 43 => (reached ER (kcell ck) 0 : sProp 𝕄)) (Finset.mem_univ (c, k))
  unfold ctx
  iintro ⟨-, H, -⟩
  iapply h $$ H
theorem ctx_inv_bar (c : Dev nD) : ctx A ⊢ (∃ κ : ℕ, cellInv ER (Rd A) κ (barCell c) : sProp 𝕄) := ctx_inv_at A c 0
theorem ctx_reached_bar (c : Dev nD) : ctx A ⊢ (reached ER (barCell c) 0 : sProp 𝕄) := ctx_reached_at A c 0
theorem ctx_inv (c : Dev nD) (q : DmaSem sig) (h : kd q ≠ .no) : ctx A ⊢ (∃ κ : ℕ, cellInv ER (Rd A) κ (dcell c q) : sProp 𝕄) := by
  obtain ⟨k, hk⟩ := csem_dma q h
  unfold dcell
  rw [← hk]
  exact ctx_inv_at A c k
theorem ctx_reached (c : Dev nD) (q : DmaSem sig) (h : kd q ≠ .no) : ctx A ⊢ (reached ER (dcell c q) 0 : sProp 𝕄) := by
  obtain ⟨k, hk⟩ := csem_dma q h
  unfold dcell
  rw [← hk]
  exact ctx_reached_at A c k
theorem ctx_lev : ctx A ⊢ (levAts L lv : sProp 𝕄) := by
  unfold ctx
  iintro ⟨-, -, #H⟩
  iexact H

end Cert.KernelIdeal.Soft
-- ==== Proof.Steps.lean ====
/- One operation of the kernel at a time: what it takes, and what it gives. -/
module

public import proofs.«01_k».proof.Proof.Schedule

@[expose] public section

set_option maxRecDepth 16384

noncomputable section

namespace Cert.KernelIdeal.Soft

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- The weakest precondition of a part of device `c`'s program. -/
abbrev WP (c : Dev nD) {α : Type} (p : TP F α) (K : α → sProp 𝕄) : sProp 𝕄 :=
  wp frame (wpE (defs₀ (F := F)) 𝒱₀ (c : Thread nD τ) none) Set.univ p K

theorem ret_intro (c : Dev nD) {α : Type} {v : α} (K : α → sProp 𝕄) : (iprop(|={Set.univ}=> K v) : sProp 𝕄) ⊢ WP c (.ret v) K := .rfl

variable (A : Args F)

/-- A wait for a transfer: its payload comes, and the cell's count is back at zero for good. -/
theorem waitD (c : Dev nD) (q : DmaSem sig) (k : Kd) (hq : kd q = k) (hk : k ≠ .no) (l : List Tk) (hl : ∀ t ∈ l, klv k < tlv t)
    {sp sp' : Space} {e : EltTy} {s s' : Shape} (src : Memref sig .tc sp s e) (dst : Memref sig .tc sp' s' e) (h₁) (h₂)
    (hN : dst.view.dmaCredit = kamt k) (K : PUnit → sProp 𝕄) :
    iprop(ctx A ∗ cred (tallyAt (dcell c q) () (kamt k)) ∗ ow c l ∗ atPos ER (dcell c q) 0 ∅ 0
        ∗ ((ow c l ∗ semVal (dcell c q) 0 ∗ kpay A c k) -∗ K ⟨⟩))
      ⊢ WP c (Prog.lift (.waitDma2 q src dst h₁ h₂)) K := by
  subst hq
  have hr : (iprop(emp ∗ levAts L lv) : sProp 𝕄) ⊢ MayWait (c : Thread nD τ) (.dma q) () (owedL c l) := by
    iintro ⟨-, H⟩; iapply (mayWait (F := F) c (.dma q) l hl) $$ H
  iintro ⟨#HC, Hcr, Ho, Hat, HK⟩
  unfold ow
  icases Ho with ⟨%W, Ho⟩
  ihave HI := (ctx_inv A c q hk) $$ HC
  icases HI with ⟨%κ, #HI⟩
  ihave Hlev := (ctx_lev A) $$ HC
  ihave HW := (mayWait (F := F) c (.dma q) l hl) $$ Hlev
  unfold WP Prog.lift
  iapply (Rounds.wp_wait_rest_token 𝒱₀ ER (Rd A) (c : Thread nD τ) none (κ := κ)
    (hw := wpE_waitDma2_eq 𝒱₀ (c : Thread nD τ) none Set.univ) (hE := Set.mem_univ _) () (O := owedL c l) (W := W) (R := 0) (m := 0) (T := ∅)
    (hk := (by rw [hN, Nat.zero_add]; exact (expect_dma A c q hk).symm)))
    $$ [Hcr Ho HW Hat]
  · isplitr; iexact HI
    rw [hN]
    isplitl [Hcr]; iexact Hcr
    isplitl [Ho]; iexact Ho
    isplitl [HW]; iexact HW
    iexact Hat
  iintro ⟨Ho, Hat, -, Hp⟩
  ihave Hp := (show (bigSep ((Rd A).duties ((c : Thread nD τ), .dma q) 0 \ ∅) (fun d => (Rd A).payload ((c : Thread nD τ), .dma q) 0 d) : sProp 𝕄) ⊢ kpay A c (kd q) from
    Entails.of_eq (rest_dma A c q hk)) $$ Hp
  iapply (ret_intro (F := F) c _)
  imod (Rounds.cell_close ER (Rd A) (g := dcell c q) (κ := κ) (Es := Set.univ) (Set.mem_univ _) (fun h => h) (R := 0 + 1) (duties_later A _)) $$ [Hat] with Hz
  · isplitr; iexact HI
    iexact Hat
  imodintro
  iapply HK
  isplitl [Ho]
  · iexists (insert (.dma q, ()) W); iexact Ho
  isplitl [Hz]; iexact Hz
  iexact Hp

/-- A send to a neighbour: the part read is lent to the send's cell, the part written to the receiver's. -/
theorem sendD (c n : Dev nD) (S R : DmaSem sig) (kS kR : Kd) (hS : kd S = kS) (hR : kd R = kR) (hkS : kS ≠ .no) (hkR : kR ≠ .no) (hn : n = kpd kR c)
    (l : List Tk) {sp sp' : Space} {e : EltTy} {s : Shape} (src : Memref sig (c : Thread nD τ).2.kind sp s e) (dst : Memref sig (n : Thread nD τ).2.kind sp' s e) (hsc) (h₁) (h₂) (h₃)
    (hN : dst.view.dmaCredit = kamt kR) (hNS : kamt kS = kamt kR) (q : PosShare TreeShare) (fs fd)
    (hp₁ : (src.view.loc (c : Thread nD τ) ↦[src.view.set]{q} fs : sProp 𝕄) ⊢ kpay A c kS)
    (hp₂ : (dst.view.loc (n : Thread nD τ) ↦[dst.view.set]{fullShare} dst.view.write (Elt F) fd (src.view.read (Elt F) fs) Finset.univ : sProp 𝕄) ⊢ kpay A n kR)
    (K : PUnit → sProp 𝕄) :
    iprop(ctx A ∗ (src.view.loc (c : Thread nD τ) ↦[src.view.set]{q} fs) ∗ (dst.view.loc (n : Thread nD τ) ↦[dst.view.set]{fullShare} fd)
        ∗ ow c (.q R :: l) ∗ dutyTok ER (dcell c S) 0 0 ∗ dutyTok ER (dcell (kpd kR c) R) 0 0
        ∗ ((cred (tallyAt (dcell c S) () (kamt kS)) ∗ ow c l) -∗ K ⟨⟩))
      ⊢ WP c (Prog.lift (.enqueueDma src (.remote (Dev.tc n) dst (.dma S) hsc) (.dma R) h₁ h₂ h₃)) K := by
  subst hS; subst hR; subst hn
  iintro ⟨#HC, Hs, Hd, Ho, Ht₁, Ht₂, HK⟩
  unfold ow
  icases Ho with ⟨%W, Ho⟩
  ihave HI := (ctx_inv A c S hkS) $$ HC
  icases HI with ⟨%κ₁, #HI₁⟩
  ihave HI := (ctx_inv A (kpd (kd R) c) R hkR) $$ HC
  icases HI with ⟨%κ₂, #HI₂⟩
  ihave #HR₁ := (ctx_reached A c S hkS) $$ HC
  ihave #HR₂ := (ctx_reached A (kpd (kd R) c) R hkR) $$ HC
  unfold WP Prog.lift
  iapply (Rounds.wp_send_pointsTo 𝒱₀ ER (Rd A) (c : Thread nD τ) none (κ₁ := κ₁) (κ₂ := κ₂) (r₁ := 0) (r₂ := 0) (d₁ := (0 : Fin 3)) (d₂ := (0 : Fin 3)) (fd := fd) (src := src) (dst := dst) (sS := .dma S) (sem := .dma R)
    (hd₁ := by rw [duties_dma A c S hkS]; exact Finset.mem_singleton_self _)
    (hd₂ := by rw [duties_dma A (kpd (kd R) c) R hkR]; exact Finset.mem_singleton_self _)
    () () (kamt (kd R)) (hN := (View.amount_dma _ _).trans hN) (hk₁ := (show (Rd A).amount (dcell c S) 0 0 = _ from hNS)) (hk₂ := rfl) (O := owedL c l) (hO := rfl) (W := W) (hpay₁ := hp₁) (hpay₂ := hp₂))
    $$ [Hs Hd Ho Ht₁ Ht₂]
  · isplitr; iexact HI₁
    isplitr; iexact HI₂
    isplitl [Hs]; iexact Hs
    isplitl [Hd]; iexact Hd
    isplitl [Ho]; iexact Ho
    isplitl [Ht₁]; iexact Ht₁
    isplitr; iexact HR₁
    isplitl [Ht₂]; iexact Ht₂
    iexact HR₂
  iintro ⟨Hcr, Ho⟩
  iapply (ret_intro (F := F) c _)
  imodintro
  iapply HK
  isplitl [Hcr]
  · rw [hNS]; iexact Hcr
  iexists W; iexact Ho

/-- An entry signal to a neighbour. -/
theorem sigB (c n : Dev nD) (d : Fin 3) (hn : n = nbar d c) (l : List Tk) (K : PUnit → sProp 𝕄) :
    iprop(ctx A ∗ ow c (.b d :: l) ∗ dutyTok ER (barCell (nbar d c)) 0 d ∗ barPay (F := F) (nbar d c) d ∗ (ow c l -∗ K ⟨⟩))
      ⊢ WP c (semSignalWord n barS 1#32) K := by
  subst hn
  iintro ⟨#HC, Ho, Ht, Hp, HK⟩
  unfold ow
  icases Ho with ⟨%W, Ho⟩
  ihave HI := (ctx_inv_bar A (nbar d c)) $$ HC
  icases HI with ⟨%κ, #HI⟩
  ihave #HR := (ctx_reached_bar A (nbar d c)) $$ HC
  ihave Hp := (show barPay (F := F) (nbar d c) d ⊢ (Rd A).payload (barCell (nbar d c)) 0 d from .rfl) $$ Hp
  unfold WP semSignalWord
  iapply (Rounds.wp_signal 𝒱₀ ER (Rd A) (c : Thread nD τ) none (dst := ((nbar d c : Dev nD) : Thread nD τ)) (κ := κ) (d := d)
    (hd := by rw [duties_bar]; exact Finset.mem_univ _) (hk := rfl) () (owedL c l) (hO := rfl)) $$ [Ho Ht Hp]
  · isplitr; iexact HI
    isplitl [Ho]; iexact Ho
    isplitl [Ht]; iexact Ht
    isplitl [Hp]; iexact Hp
    iexact HR
  iintro Ho
  iapply (ret_intro (F := F) c _)
  imodintro
  iapply HK
  iexists W; iexact Ho

/-- The wait for the three entry signals. -/
theorem waitB (c : Dev nD) (l : List Tk) (hl : ∀ t ∈ l, 1 < tlv t) (K : PUnit → sProp 𝕄) :
    iprop(ctx A ∗ cred (tallyAt (barCell c) () 3) ∗ ow c l ∗ atPos ER (barCell c) 0 ∅ 0
        ∗ ((ow c l ∗ semVal (barCell c) 0 ∗ barPay (F := F) c 0 ∗ barPay (F := F) c 1 ∗ barPay (F := F) c 2) -∗ K ⟨⟩))
      ⊢ WP c (semWaitWord barS 3#32) K := by
  iintro ⟨#HC, Hcr, Ho, Hat, HK⟩
  unfold ow
  icases Ho with ⟨%W, Ho⟩
  ihave HI := (ctx_inv_bar A c) $$ HC
  icases HI with ⟨%κ, #HI⟩
  ihave Hlev := (ctx_lev A) $$ HC
  ihave HW := (mayWait (F := F) c (.reg barS) l hl) $$ Hlev
  unfold WP semWaitWord
  iapply (Rounds.wp_wait_rest_token 𝒱₀ ER (Rd A) (c : Thread nD τ) none (κ := κ)
    (hw := wpE_semWait_eq 𝒱₀ (c : Thread nD τ) none Set.univ) (hE := Set.mem_univ _) () (O := owedL c l) (W := W) (R := 0) (m := 0) (T := ∅)
    (hk := (expect_bar A c).symm.trans rfl ▸ rfl))
    $$ [Hcr Ho HW Hat]
  · isplitr; iexact HI
    isplitl [Hcr]; iexact Hcr
    isplitl [Ho]; iexact Ho
    isplitl [HW]; iexact HW
    iexact Hat
  iintro ⟨Ho, Hat, -, Hp⟩
  ihave Hp := (show (bigSep ((Rd A).duties ((c : Thread nD τ), .reg barS) 0 \ ∅) (fun d => (Rd A).payload ((c : Thread nD τ), .reg barS) 0 d) : sProp 𝕄) ⊢ iprop(barPay (F := F) c 0 ∗ barPay (F := F) c 1 ∗ barPay (F := F) c 2) from
    Entails.of_eq (rest_bar A c)) $$ Hp
  iapply (ret_intro (F := F) c _)
  imod (Rounds.cell_close ER (Rd A) (g := barCell c) (κ := κ) (Es := Set.univ) (Set.mem_univ _) (fun h => h) (R := 0 + 1) (duties_later A _)) $$ [Hat] with Hz
  · isplitr; iexact HI
    iexact Hat
  imodintro
  iapply HK
  isplitl [Ho]
  · iexists (insert (.reg barS, ()) W); iexact Ho
  isplitl [Hz]; iexact Hz
  iexact Hp

end Cert.KernelIdeal.Soft
-- ==== Proof.Ops.lean ====
/- Loads and stores of the kernel, on parts of the buffers that are filled piece by piece. -/
module

public import proofs.«01_k».proof.Proof.Steps

@[expose] public section

set_option maxRecDepth 16384

noncomputable section

namespace Cert.KernelIdeal.Soft

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

abbrev xP (c : Dev nD) (f : Vec F S256x512 .bf16) : sProp 𝕄 := ((c : Thread nD τ).loc cc0_stg0_0) ↦{fullShare} f
abbrev wP (c : Dev nD) (f : Vec F S512x4096 .bf16) : sProp 𝕄 := ((c : Thread nD τ).loc cc0_stg1_0) ↦{fullShare} f
abbrev oP (c : Dev nD) (f : FVec F S256x8192 .f32) : sProp 𝕄 := ((c : Thread nD τ).loc cc0_stg2_0) ↦{fullShare} f

/-- The elements `S` of the buffer of exponentials, those of the sets listed holding `G`. -/
def partE (c : Dev nD) (S : Finset BI) (G : BC F) (l : List (Finset BI)) : sProp 𝕄 :=
  iprop(∃ f : BC F, ⌜∀ T ∈ l, ∀ i ∈ T, f i = G i⌝ ∗ eP c S fullShare f)
/-- The output buffer, the tiles listed holding `G`. -/
def partO (c : Dev nD) (G : FVec F S256x8192 .f32) (l : List (Fin 32)) : sProp 𝕄 :=
  iprop(∃ f : FVec F S256x8192 .f32, ⌜∀ t ∈ l, ∀ i ∈ tset t, f i = G i⌝ ∗ oP c f)

/-- The tile of an output element. -/
def tOf (i : S256x8192.Idx) : Fin 32 := ⟨(i 1).val / 256, by have := (i 1).isLt; simp [S256x8192] at this; omega⟩

theorem partE_start (c : Dev nD) (S : Finset BI) (G f : BC F) : eP c S fullShare f ⊢ partE c S G [] := by
  unfold partE
  iintro H
  iexists f
  isplitr
  · ipureintro; exact fun T hT => absurd hT (List.not_mem_nil)
  iexact H
theorem partE_done (c : Dev nD) (S : Finset BI) (G : BC F) (l : List (Finset BI)) (h : ∀ i ∈ S, ∃ T ∈ l, i ∈ T) : partE c S G l ⊢ eP c S fullShare G := by
  unfold partE
  iintro ⟨%f, %hf, H⟩
  iapply (show (eP c S fullShare f : sProp 𝕄) ⊢ eP c S fullShare G from
    Entails.of_eq (pointsTo_congr fun i hi => by obtain ⟨T, hT, hiT⟩ := h i hi; exact hf T hT i hiT)) $$ H
theorem partO_start (c : Dev nD) (G f : FVec F S256x8192 .f32) : oP c f ⊢ partO c G [] := by
  unfold partO
  iintro H
  iexists f
  isplitr
  · ipureintro; exact fun T hT => absurd hT (List.not_mem_nil)
  iexact H
theorem partO_done (c : Dev nD) (G : FVec F S256x8192 .f32) (l : List (Fin 32)) (h : ∀ t, t ∈ l) : partO c G l ⊢ oP c G := by
  unfold partO
  iintro ⟨%f, %hf, H⟩
  iapply (show (oP c f : sProp 𝕄) ⊢ oP c G from
    Entails.of_eq (pointsTo_congr fun i _ => hf _ (h (tOf i)) i (mem_tset.mpr rfl))) $$ H

/-- Reading a block of the buffer of exponentials. -/
theorem ldE (c : Dev nD) {a s h} (b : BOff a s h) (S : Finset BI) (q : PosShare TreeShare) (f : BC F) (hS : bset a s h ⊆ S) (K : Vec F S1x1x1x256x128 .bf16 → sProp 𝕄) :
    iprop(eP c S q f ∗ (eP c S q f -∗ K (blk f a s h))) ⊢ WP c (ldB eM b) K := by
  iintro ⟨H, HK⟩
  unfold WP ldB Prog.lift
  iapply (wp_load_rect 𝒱₀ (c : Thread nD τ) none Set.univ (m := eM) (r := b.rect) (S := S) (q := q) (f := f) (by rw [acc_e]; exact hS)) $$ H
  iintro H
  iapply (ret_intro (F := F) c K)
  imodintro
  rw [read_e]
  iapply HK $$ H
/-- Reading a block of the receive buffer. -/
theorem ldR (c : Dev nD) {a s h} (b : BOff a s h) (S : Finset BI) (q : PosShare TreeShare) (f : BC F) (hS : bset a s h ⊆ S) (K : Vec F S1x1x1x256x128 .bf16 → sProp 𝕄) :
    iprop(rP c S q f ∗ (rP c S q f -∗ K (blk f a s h))) ⊢ WP c (ldB rM b) K := by
  iintro ⟨H, HK⟩
  unfold WP ldB Prog.lift
  iapply (wp_load_rect 𝒱₀ (c : Thread nD τ) none Set.univ (m := rM) (r := b.rect) (S := S) (q := q) (f := f) (by rw [acc_r]; exact hS)) $$ H
  iintro H
  iapply (ret_intro (F := F) c K)
  imodintro
  rw [read_r]
  iapply HK $$ H

/-- Storing a block of the buffer of exponentials. -/
theorem stE (c : Dev nD) {a s h} (b : BOff a s h) (v : FVec F S1x1x1x256x128 .bf16) (S : Finset BI) (G : BC F) (l : List (Finset BI)) (hS : bset a s h ⊆ S)
    (hv : v = blk G a s h) (K : PUnit → sProp 𝕄) :
    iprop(partE c S G l ∗ (partE c S G (bset a s h :: l) -∗ K ⟨⟩)) ⊢ WP c (stB b v) K := by
  unfold partE
  iintro ⟨⟨%f, %hf, H⟩, HK⟩
  unfold stB WP
  rw [wp_bind]
  iapply (ldE c b S fullShare f hS) $$ [H HK]
  isplitl [H]; iexact H
  iintro H
  unfold Prog.lift
  iapply (wp_store 𝒱₀ (c : Thread nD τ) none Set.univ (m := eM) (r := b.rect) (Mk := Finset.univ) (S := S) (f := f) (by rw [View.setOn_univ, acc_e]; exact hS)) $$ H
  iintro H
  iapply (ret_intro (F := F) c K)
  imodintro
  iapply HK
  iexists ((eM.access b.rect).write (Elt F) f v Finset.univ)
  isplitr
  · ipureintro
    have hb : ∀ i ∈ bset a s h, (eM.access b.rect).write (Elt F) f v Finset.univ i = G i := fun i hi =>
      write_on (Val := Elt F) (eM.access b.rect) f G v ((read_e b G).trans hv.symm) i (by rw [acc_e]; exact hi)
    intro T hT i hi
    by_cases hib : i ∈ bset a s h
    · exact hb i hib
    · rcases List.mem_cons.mp hT with rfl | hT
      · exact absurd hi hib
      · exact (View.write_of_not_mem _ _ _ (by rw [View.setOn_univ, acc_e]; exact hib)).trans (hf T hT i hi)
  iexact H

/-- Writing an output tile from two blocks that a resource `X` lets be read. -/
theorem outG (c : Dev nD) (M : BM) {a s a' s' t} (b0 : BOff a s 0) (b1 : BOff a' s' 1) (o : TOff t) (inv : FVec F S256x1 .f32) (X : sProp 𝕄)
    (v0 v1 : Vec F S1x1x1x256x128 .bf16) (G : FVec F S256x8192 .f32) (l : List (Fin 32))
    (h0 : ∀ K : Vec F S1x1x1x256x128 .bf16 → sProp 𝕄, iprop(X ∗ (X -∗ K v0)) ⊢ WP c (ldB M b0) K)
    (h1 : ∀ K : Vec F S1x1x1x256x128 .bf16 → sProp 𝕄, iprop(X ∗ (X -∗ K v1)) ⊢ WP c (ldB M b1) K)
    (hv : k0_pay63 inv v0 v1 = tile G t) (K : PUnit → sProp 𝕄) :
    iprop(X ∗ partO c G l ∗ ((X ∗ partO c G (t :: l)) -∗ K ⟨⟩)) ⊢ WP c (outB M b0 b1 o inv) K := by
  unfold partO
  iintro ⟨HX, ⟨%f, %hf, H⟩, HK⟩
  unfold outB WP
  rw [wp_bind]
  iapply (h0 _) $$ [HX H HK]
  isplitl [HX]; iexact HX
  iintro HX
  rw [wp_bind]
  iapply (h1 _) $$ [HX H HK]
  isplitl [HX]; iexact HX
  iintro HX
  unfold Prog.lift
  rw [Prog.bind_op]
  iapply (wp_load_rect 𝒱₀ (c : Thread nD τ) none Set.univ (m := oM) (r := o.rect) (S := Finset.univ) (f := f) (Finset.subset_univ _)) $$ H
  iintro H
  rw [Prog.bind_ret]
  iapply (wp_store 𝒱₀ (c : Thread nD τ) none Set.univ (m := oM) (r := o.rect) (Mk := Finset.univ) (S := Finset.univ) (f := f) (Finset.subset_univ _)) $$ H
  iintro H
  iapply (ret_intro (F := F) c K)
  imodintro
  iapply HK
  isplitl [HX]; iexact HX
  iexists ((oM.access o.rect).write (Elt F) f (k0_pay63 inv v0 v1) Finset.univ)
  isplitr
  · ipureintro
    have hb : ∀ i ∈ tset t, (oM.access o.rect).write (Elt F) f (k0_pay63 inv v0 v1) Finset.univ i = G i := fun i hi =>
      write_on (Val := Elt F) (oM.access o.rect) f G _ ((read_t o G).trans hv.symm) i (by rw [acc_o]; exact hi)
    intro T hT i hi
    by_cases hib : i ∈ tset t
    · exact hb i hib
    · rcases List.mem_cons.mp hT with rfl | hT
      · exact absurd hi hib
      · exact (View.write_of_not_mem _ _ _ (by rw [View.setOn_univ, acc_o]; exact hib)).trans (hf T hT i hi)
  iexact H

/-- Writing an output tile from the buffer of exponentials. -/
theorem outE (c : Dev nD) {a s a' s' t} (b0 : BOff a s 0) (b1 : BOff a' s' 1) (o : TOff t) (inv : FVec F S256x1 .f32) (S : Finset BI) (q : PosShare TreeShare) (f : BC F)
    (G : FVec F S256x8192 .f32) (l : List (Fin 32)) (h0 : bset a s 0 ⊆ S) (h1 : bset a' s' 1 ⊆ S)
    (hv : k0_pay63 inv (blk f a s 0) (blk f a' s' 1) = tile G t) (K : PUnit → sProp 𝕄) :
    iprop(eP c S q f ∗ partO c G l ∗ ((eP c S q f ∗ partO c G (t :: l)) -∗ K ⟨⟩)) ⊢ WP c (outB eM b0 b1 o inv) K :=
  outG c eM b0 b1 o inv _ _ _ G l (ldE c b0 S q f h0) (ldE c b1 S q f h1) hv K
/-- Writing an output tile from the receive buffer. -/
theorem outR (c : Dev nD) {a s a' s' t} (b0 : BOff a s 0) (b1 : BOff a' s' 1) (o : TOff t) (inv : FVec F S256x1 .f32) (S : Finset BI) (q : PosShare TreeShare) (f : BC F)
    (G : FVec F S256x8192 .f32) (l : List (Fin 32)) (h0 : bset a s 0 ⊆ S) (h1 : bset a' s' 1 ⊆ S)
    (hv : k0_pay63 inv (blk f a s 0) (blk f a' s' 1) = tile G t) (K : PUnit → sProp 𝕄) :
    iprop(rP c S q f ∗ partO c G l ∗ ((rP c S q f ∗ partO c G (t :: l)) -∗ K ⟨⟩)) ⊢ WP c (outB rM b0 b1 o inv) K :=
  outG c rM b0 b1 o inv _ _ _ G l (ldR c b0 S q f h0) (ldR c b1 S q f h1) hv K

/-- Reading a strip of the weights. -/
theorem ldW (c : Dev nD) {t} (u : UOff t) (w : Vec F S512x4096 .bf16) (K : Vec F S512x256 .bf16 → sProp 𝕄) (hl) :
    iprop(wP c w ∗ (wP c w -∗ K (wS w t))) ⊢ WP c (Prog.lift (.load wM u.rect.toLoadRect hl)) K := by
  iintro ⟨H, HK⟩
  unfold WP Prog.lift
  iapply (wp_load_rect 𝒱₀ (c : Thread nD τ) none Set.univ (m := wM) (r := u.rect) (S := Finset.univ) (f := w) (Finset.subset_univ _)) $$ H
  iintro H
  iapply (ret_intro (F := F) c K)
  imodintro
  rw [read_u]
  iapply HK $$ H
/-- Reading a quarter of the weights. -/
theorem ldQ (c : Dev nD) {t} (u : QOff t) (w : Vec F S512x4096 .bf16) (K : Vec F S512x1024 .bf16 → sProp 𝕄) (hl) :
    iprop(wP c w ∗ (wP c w -∗ K (wQ w t))) ⊢ WP c (Prog.lift (.load wM u.rect.toLoadRect hl)) K := by
  iintro ⟨H, HK⟩
  unfold WP Prog.lift
  iapply (wp_load_rect 𝒱₀ (c : Thread nD τ) none Set.univ (m := wM) (r := u.rect) (S := Finset.univ) (f := w) (Finset.subset_univ _)) $$ H
  iintro H
  iapply (ret_intro (F := F) c K)
  imodintro
  rw [read_q]
  iapply HK $$ H

/-! ## The stored blocks -/

/-- 128 columns of a value, stored as a block, at an index. -/
theorem castSlice (n o : ℕ) (V : FVec F ⟨2, ![256, n]⟩ .bf16) (hs : (⟨2, ![256, n]⟩ : Shape).Slices ![0, o] S256x128) (ho : o + 128 ≤ n) (j : S1x1x1x256x128.Idx) :
    shapeCast S1x1x1x256x128 (extractStridedSlice S256x128 ![0, o] V hs) shapeCasts_S256x128_S1x1x1x256x128 j
      = V (ix2 (j 3 : Fin 256) (⟨o + (j 4).val, by have := (j 4).isLt; simp [S1x1x1x256x128] at this; omega⟩ : Fin n)) := by
  have h0 := (j 0).isLt; have h1 := (j 1).isLt; have h2 := (j 2).isLt
  simp [S1x1x1x256x128] at h0 h1 h2
  refine (shapeCast_apply _ _ j (ix2 (j 3 : Fin 256) (j 4 : Fin 128)) ?_).trans ?_
  · rw [Shape.rowMajor_val_two, Shape.rowMajor_val_five]
    show (j 3).val * 128 + (j 4).val = ((((j 0).val * 1 + (j 1).val) * 1 + (j 2).val) * 256 + (j 3).val) * 128 + (j 4).val
    omega
  · refine extractStridedSlice_apply _ _ _ _ _ fun a => ?_
    match a with
    | ⟨0, _⟩ => show (j 3).val = 0 + (j 3).val; omega
    | ⟨1, _⟩ => rfl

variable (A : Args F)

theorem EB_own (c : Dev nD) (s : Fin 4) (h : Fin 2) : blk (A.EB c) (qo c) s h = fun j =>
    k0_pay4 (A.x c) (wS (A.w c) ⟨4 * (qo c).val + s.val, by omega⟩) (ix2 (j 3 : Fin 256) (⟨128 * h.val + (j 4).val, by have := (j 4).isLt; simp [S1x1x1x256x128] at this; omega⟩ : Fin 256)) := by
  funext j
  unfold blk Args.EB ebOf
  exact if_pos rfl
theorem EB_oth (c : Dev nD) (a : Fin 4) (ha : a ≠ qo c) (s : Fin 4) (h : Fin 2) : blk (A.EB c) a s h = fun j =>
    k0_pay50 (k0_pay1 (A.x c)) (wQ (A.w c) a) (ix2 (j 3 : Fin 256) (⟨256 * s.val + 128 * h.val + (j 4).val, by have := (j 4).isLt; simp [S1x1x1x256x128] at this; omega⟩ : Fin 1024)) := by
  funext j
  unfold blk Args.EB ebOf
  exact if_neg fun e => ha (Fin.ext e)

theorem own0 (c : Dev nD) (s : Fin 4) : k0_pay5 (A.x c) (wS (A.w c) ⟨4 * (qo c).val + s.val, by omega⟩) = blk (A.EB c) (qo c) s 0 := by
  rw [EB_own]; funext j
  refine (castSlice 256 0 _ slices_S256x256_o0_0_S256x128 (by omega) j).trans (congrArg _ (congrArg _ (Fin.ext ?_)))
  show 0 + _ = 128 * 0 + _; omega
theorem own1 (c : Dev nD) (s : Fin 4) : k0_pay7 (k0_pay6 (A.x c) (wS (A.w c) ⟨4 * (qo c).val + s.val, by omega⟩)) = blk (A.EB c) (qo c) s 1 := by
  rw [EB_own]; funext j
  exact (castSlice 256 128 (k0_pay4 (A.x c) (wS (A.w c) ⟨4 * (qo c).val + s.val, by omega⟩)) slices_S256x256_o0_128_S256x128 (by omega) j).trans (congrArg _ (congrArg _ (Fin.ext (by show 128 + _ = 128 * 1 + _; omega))))
section
variable (c : Dev nD) (a : Fin 4) (ha : a ≠ qo c)
include ha
theorem oth00 : k0_pay51 (k0_pay1 (A.x c)) (wQ (A.w c) a) = blk (A.EB c) a 0 0 := by
  rw [EB_oth A c a ha]; funext j
  exact (castSlice 1024 0 _ slices_S256x1024_o0_0_S256x128 (by omega) j).trans (congrArg _ (congrArg _ (Fin.ext (by show 0 + _ = 256 * 0 + 128 * 0 + _; omega))))
theorem oth01 : k0_pay52 (k0_pay1 (A.x c)) (wQ (A.w c) a) = blk (A.EB c) a 0 1 := by
  rw [EB_oth A c a ha]; funext j
  exact (castSlice 1024 128 _ slices_S256x1024_o0_128_S256x128 (by omega) j).trans (congrArg _ (congrArg _ (Fin.ext (by show 128 + _ = 256 * 0 + 128 * 1 + _; omega))))
theorem oth10 : k0_pay53 (k0_pay1 (A.x c)) (wQ (A.w c) a) = blk (A.EB c) a 1 0 := by
  rw [EB_oth A c a ha]; funext j
  exact (castSlice 1024 256 _ slices_S256x1024_o0_256_S256x128 (by omega) j).trans (congrArg _ (congrArg _ (Fin.ext (by show 256 + _ = 256 * 1 + 128 * 0 + _; omega))))
theorem oth11 : k0_pay54 (k0_pay1 (A.x c)) (wQ (A.w c) a) = blk (A.EB c) a 1 1 := by
  rw [EB_oth A c a ha]; funext j
  exact (castSlice 1024 384 _ slices_S256x1024_o0_384_S256x128 (by omega) j).trans (congrArg _ (congrArg _ (Fin.ext (by show 384 + _ = 256 * 1 + 128 * 1 + _; omega))))
theorem oth20 : k0_pay55 (k0_pay1 (A.x c)) (wQ (A.w c) a) = blk (A.EB c) a 2 0 := by
  rw [EB_oth A c a ha]; funext j
  exact (castSlice 1024 512 _ slices_S256x1024_o0_512_S256x128 (by omega) j).trans (congrArg _ (congrArg _ (Fin.ext (by show 512 + _ = 256 * 2 + 128 * 0 + _; omega))))
theorem oth21 : k0_pay57 (k0_pay56 (k0_pay1 (A.x c)) (wQ (A.w c) a)) = blk (A.EB c) a 2 1 := by
  rw [EB_oth A c a ha]; funext j
  exact (castSlice 1024 640 (k0_pay50 (k0_pay1 (A.x c)) (wQ (A.w c) a)) slices_S256x1024_o0_640_S256x128 (by omega) j).trans (congrArg _ (congrArg _ (Fin.ext (by show 640 + _ = 256 * 2 + 128 * 1 + _; omega))))
theorem oth30 : k0_pay58 (k0_pay50 (k0_pay1 (A.x c)) (wQ (A.w c) a)) = blk (A.EB c) a 3 0 := by
  rw [EB_oth A c a ha]; funext j
  exact (castSlice 1024 768 _ slices_S256x1024_o0_768_S256x128 (by omega) j).trans (congrArg _ (congrArg _ (Fin.ext (by show 768 + _ = 256 * 3 + 128 * 0 + _; omega))))
theorem oth31 : k0_pay59 (k0_pay50 (k0_pay1 (A.x c)) (wQ (A.w c) a)) = blk (A.EB c) a 3 1 := by
  rw [EB_oth A c a ha]; funext j
  exact (castSlice 1024 896 _ slices_S256x1024_o0_896_S256x128 (by omega) j).trans (congrArg _ (congrArg _ (Fin.ext (by show 896 + _ = 256 * 3 + 128 * 1 + _; omega))))
end

/-! ## The output tiles -/

theorem tile_OUT (c : Dev nD) (t : Fin 32) : tile (A.OUT c) t = A.OT c t := by
  funext j
  have h1 := (j 1).isLt
  simp [S256x256] at h1
  unfold tile Args.OUT
  show A.OT c ⟨(256 * t.val + (j 1).val) / 256, _⟩ (ix2 (j 0 : Fin 256) (⟨(256 * t.val + (j 1).val) % 256, _⟩ : Fin 256)) = _
  rw [show (⟨(256 * t.val + (j 1).val) / 256, by omega⟩ : Fin 32) = t from Fin.ext (by show (256 * t.val + (j 1).val) / 256 = t.val; omega)]
  rw [show (⟨(256 * t.val + (j 1).val) % 256, by omega⟩ : Fin 256) = (j 1 : Fin 256) from Fin.ext (by show (256 * t.val + (j 1).val) % 256 = (j 1).val; omega)]
  exact congrArg _ (eq_ix2 j).symm
/-- A tile of the half that the device holds. -/
theorem tile_own (c : Dev nD) (a s : Fin 4) : k0_pay63 (A.INV c) (blk (A.EB c) a s 0) (blk (A.EB c) a s 1) = tile (A.OUT c) (tno (zc c) a s) := by
  rw [tile_OUT]
  unfold Args.OT
  have hz : (tno (zc c) a s).val = 16 * (c.val % 2) + 4 * a.val + s.val := rfl
  have hc : c.val % 2 < 2 := Nat.mod_lt _ (by omega)
  rw [if_pos (by rw [hz]; omega)]
  rw [show (⟨(tno (zc c) a s).val / 4 % 4, by omega⟩ : Fin 4) = a from Fin.ext (by show _ / 4 % 4 = a.val; rw [hz]; omega),
    show (⟨(tno (zc c) a s).val % 4, by omega⟩ : Fin 4) = s from Fin.ext (by show _ % 4 = s.val; rw [hz]; omega)]
theorem zo_val : ∀ c : Dev nD, (zo c).val = 1 - c.val % 2 := by decide
/-- A tile of the other half. -/
theorem tile_oth (c : Dev nD) (a s : Fin 4) : k0_pay63 (A.INV c) (blk (A.XB c) a s 0) (blk (A.XB c) a s 1) = tile (A.OUT c) (tno (zo c) a s) := by
  rw [tile_OUT]
  unfold Args.OT
  have hz : (tno (zo c) a s).val = 16 * (1 - c.val % 2) + 4 * a.val + s.val := by rw [← zo_val]; rfl
  have hc : c.val % 2 < 2 := Nat.mod_lt _ (by omega)
  rw [if_neg (by rw [hz]; omega)]
  rw [show (⟨(tno (zo c) a s).val / 4 % 4, by omega⟩ : Fin 4) = a from Fin.ext (by show _ / 4 % 4 = a.val; rw [hz]; omega),
    show (⟨(tno (zo c) a s).val % 4, by omega⟩ : Fin 4) = s from Fin.ext (by show _ % 4 = s.val; rw [hz]; omega)]

/-! ## Equal contents on neighbours -/

theorem XB_zp (c : Dev nD) (s : Fin 4) : ∀ i ∈ zset (qo (zp c)) s, A.EB c i = A.XB (zp c) i := by
  intro i hi
  obtain ⟨h0, _⟩ := mem_zset.mp hi
  unfold Args.XB
  rw [show (i 0 : Fin 4) = qo (zp c) from Fin.ext h0]
  exact congrArg (fun d => A.EB d i) ((by decide : ∀ c : Dev nD, c = Args.owner (zp c) (qo (zp c))) c)
theorem XB_nb (r : Fin 2) (c : Dev nD) : A.XB (nb r c) = A.XB c := by
  funext i
  unfold Args.XB
  exact congrArg (fun d => A.EB d i) ((by decide : ∀ (r : Fin 2) (c : Dev nD) (a : Fin 4), Args.owner (nb r c) a = Args.owner c a) r c _)

end Cert.KernelIdeal.Soft
-- ==== Proof.Parts.lean ====
/- The scratch buffers taken apart and put together. -/
module

public import proofs.«01_k».proof.Proof.Ops

@[expose] public section

set_option maxRecDepth 16384

noncomputable section

namespace Cert.KernelIdeal.Soft

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

/-- A family over the four strips, written out. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  rfl

theorem mono4 {Φ Ψ : Fin 4 → sProp 𝕄} (h : ∀ s, Φ s ⊢ Ψ s) : (bigSep Finset.univ Φ : sProp 𝕄) ⊢ bigSep Finset.univ Ψ := bigSep_mono fun s _ => h s

/-- A resource of a set of elements that a disjoint union divides. -/
def Adds {I : Type} [DecidableEq I] (P : Finset I → sProp 𝕄) : Prop := ∀ S T, Disjoint S T → P (S ∪ T) = iprop(P S ∗ P T)

theorem adds_e (c : Dev nD) (q : PosShare TreeShare) (f : BC F) : Adds (fun S => eP c S q f) := fun S T h =>
  Entails.antisymm (pointsTo_union h).1 (pointsTo_union h).2
theorem adds_r (c : Dev nD) (q : PosShare TreeShare) (f : BC F) : Adds (fun S => rP c S q f) := fun S T h =>
  Entails.antisymm (pointsTo_union h).1 (pointsTo_union h).2
theorem adds_s (c : Dev nD) (q : PosShare TreeShare) (f : FVec F S2x256x8 .f32) : Adds (fun S => sP c S q f) := fun S T h =>
  Entails.antisymm (pointsTo_union h).1 (pointsTo_union h).2

theorem add4 {P : Finset BI → sProp 𝕄} (hP : Adds (F := F) P) (S : Fin 4 → Finset BI) (hd : ∀ i j, i ≠ j → Disjoint (S i) (S j)) (T : Finset BI) (hT : ∀ x, x ∈ T ↔ ∃ i, x ∈ S i) :
    P T = iprop(P (S 0) ∗ P (S 1) ∗ P (S 2) ∗ P (S 3)) := by
  have h3 : Disjoint (S 2) (S 3) := hd 2 3 (by decide)
  have h2 : Disjoint (S 1) (S 2 ∪ S 3) := Finset.disjoint_union_right.2 ⟨hd 1 2 (by decide), hd 1 3 (by decide)⟩
  have h1 : Disjoint (S 0) (S 1 ∪ (S 2 ∪ S 3)) := Finset.disjoint_union_right.2 ⟨hd 0 1 (by decide), Finset.disjoint_union_right.2 ⟨hd 0 2 (by decide), hd 0 3 (by decide)⟩⟩
  rw [show T = S 0 ∪ (S 1 ∪ (S 2 ∪ S 3)) by
    ext x
    rw [hT]
    simp only [Finset.mem_union]
    constructor
    · rintro ⟨i, hi⟩; fin_cases i
      · exact .inl hi
      · exact .inr (.inl hi)
      · exact .inr (.inr (.inl hi))
      · exact .inr (.inr (.inr hi))
    · rintro (h | h | h | h)
      exacts [⟨0, h⟩, ⟨1, h⟩, ⟨2, h⟩, ⟨3, h⟩]]
  rw [hP _ _ h1, hP _ _ h2, hP _ _ h3]

/-- A strip is its two blocks. -/
theorem z_split {P : Finset BI → sProp 𝕄} (hP : Adds (F := F) P) (a s : Fin 4) : P (zset a s) = iprop(P (bset a s 0) ∗ P (bset a s 1)) := by
  have hd : Disjoint (bset a s 0) (bset a s 1) := Finset.disjoint_left.2 fun i h h' => by
    have := (mem_bset.1 h).2.2; have := (mem_bset.1 h').2.2; simp at *; omega
  refine (congrArg P (?_ : zset a s = bset a s 0 ∪ bset a s 1)).trans (hP _ _ hd)
  ext i
  rw [Finset.mem_union, mem_zset, mem_bset, mem_bset]
  have h2 := (i 2).isLt
  simp [S4x4x2x256x128] at h2
  simp
  omega
/-- A quarter is its four strips. -/
theorem a_split {P : Finset BI → sProp 𝕄} (hP : Adds (F := F) P) (a : Fin 4) : P (aset a) = bigSep Finset.univ fun s : Fin 4 => P (zset a s) := by
  rw [four]
  refine add4 hP (fun s => zset a s) (fun s s' hs => Finset.disjoint_left.2 fun i h h' => hs (Fin.ext ((mem_zset.1 h).2.symm.trans (mem_zset.1 h').2))) _ fun i => ?_
  rw [mem_aset]
  exact ⟨fun h => ⟨(i 1 : Fin 4), mem_zset.2 ⟨h, rfl⟩⟩, fun ⟨s, h⟩ => (mem_zset.1 h).1⟩
/-- The buffer is its four quarters, in any numbering. -/
theorem u_split {P : Finset BI → sProp 𝕄} (hP : Adds (F := F) P) (e : Fin 4 → Fin 4) (he : Function.Bijective e) : P Finset.univ = iprop(P (aset (e 0)) ∗ P (aset (e 1)) ∗ P (aset (e 2)) ∗ P (aset (e 3))) := by
  refine add4 hP (fun k => aset (e k)) (fun k k' hk => Finset.disjoint_left.2 fun i h h' => hk (he.1 (Fin.ext ((mem_aset.1 h).symm.trans (mem_aset.1 h'))))) _ fun i => ?_
  refine ⟨fun _ => ?_, fun _ => Finset.mem_univ _⟩
  obtain ⟨k, hk⟩ := he.2 (i 0 : Fin 4)
  exact ⟨k, mem_aset.2 (congrArg Fin.val hk).symm⟩

theorem s_split {P : Finset S2x256x8.Idx → sProp 𝕄} (hP : Adds (F := F) P) : P Finset.univ = iprop(P (sset 0) ∗ P (sset 1)) := by
  have hd : Disjoint (sset 0) (sset 1) := Finset.disjoint_left.2 fun i h h' => by
    have := mem_sset.1 h; have := mem_sset.1 h'; simp at *; omega
  refine (congrArg P (?_ : Finset.univ = sset 0 ∪ sset 1)).trans (hP _ _ hd)
  ext i
  rw [Finset.mem_union, mem_sset, mem_sset]
  have h2 := (i 0).isLt
  simp [S2x256x8] at h2
  simp
  omega

/-- The quarters around a device: its own, its neighbours', the opposite corner's. -/
def quad (c : Dev nD) (k : Fin 4) : Fin 4 := if k = 0 then qo c else if k = 1 then qx c else if k = 2 then qy c else qd c
theorem quad_bij : ∀ c : Dev nD, Function.Bijective (quad c) := by decide
theorem qj_bij : ∀ c : Dev nD, Function.Bijective (qj c) := by decide
theorem qj_zero : ∀ c : Dev nD, qj c 0 = qo c := by decide
theorem qj_ne : ∀ (c : Dev nD) (j : Fin 4), j ≠ 0 → qj c j ≠ qo c := by decide

/-- Halving a share. -/
theorem e_half (c : Dev nD) (S : Finset BI) (q : PosShare TreeShare) (f : BC F) : eP c S q f = iprop(eP c S q.left f ∗ eP c S q.right f) :=
  Entails.antisymm (pointsTo_share (PosShare.mem_left_op_right q)).1 (pointsTo_share (PosShare.mem_left_op_right q)).2
theorem r_half (c : Dev nD) (S : Finset BI) (q : PosShare TreeShare) (f : BC F) : rP c S q f = iprop(rP c S q.left f ∗ rP c S q.right f) :=
  Entails.antisymm (pointsTo_share (PosShare.mem_left_op_right q)).1 (pointsTo_share (PosShare.mem_left_op_right q)).2

/-- A part of the buffer of exponentials at some contents. -/
def anyE (c : Dev nD) (S : Finset BI) : sProp 𝕄 := iprop(∃ f : BC F, eP c S fullShare f)

theorem anyR_of (c : Dev nD) (S : Finset BI) (f : BC F) : rP c S fullShare f ⊢ anyR (F := F) c S := by
  unfold anyR; iintro H; iexists f; iexact H
theorem anyE_of (c : Dev nD) (S : Finset BI) (f : BC F) : eP c S fullShare f ⊢ anyE (F := F) c S := by
  unfold anyE; iintro H; iexists f; iexact H
theorem anyS_of (c : Dev nD) (S) (f : FVec F S2x256x8 .f32) : sP c S fullShare f ⊢ anyS (F := F) c S := by
  unfold anyS; iintro H; iexists f; iexact H

theorem anyR_elim {c : Dev nD} {S} {Q : sProp 𝕄} (h : ∀ f : BC F, rP c S fullShare f ⊢ Q) : anyR (F := F) c S ⊢ Q := by
  unfold anyR
  iintro ⟨%f, H⟩
  iapply (h f) $$ H
theorem anyE_elim {c : Dev nD} {S} {Q : sProp 𝕄} (h : ∀ f : BC F, eP c S fullShare f ⊢ Q) : anyE (F := F) c S ⊢ Q := by
  unfold anyE
  iintro ⟨%f, H⟩
  iapply (h f) $$ H
theorem anyS_elim {c : Dev nD} {S} {Q : sProp 𝕄} (h : ∀ f : FVec F S2x256x8 .f32, sP c S fullShare f ⊢ Q) : anyS (F := F) c S ⊢ Q := by
  unfold anyS
  iintro ⟨%f, H⟩
  iapply (h f) $$ H
/-- The buffer of exponentials at entry: the own quarter by strips, the other quarters. -/
theorem e_open (c : Dev nD) : anyE (F := F) c Finset.univ ⊢
    iprop((bigSep Finset.univ fun s : Fin 4 => anyE (F := F) c (zset (qo c) s)) ∗ anyE (F := F) c (aset (qj c 1)) ∗ anyE (F := F) c (aset (qj c 2)) ∗ anyE (F := F) c (aset (qj c 3))) := by
  refine anyE_elim fun f => ?_
  rw [u_split (adds_e c fullShare f) (qj c) (qj_bij c), a_split (adds_e c fullShare f) (qj c 0), qj_zero]
  iintro ⟨H0, H1, H2, H3⟩
  isplitl [H0]
  · iapply (mono4 fun s => anyE_of c _ f) $$ H0
  isplitl [H1]; iapply (anyE_of c _ f) $$ H1
  isplitl [H2]; iapply (anyE_of c _ f) $$ H2
  iapply (anyE_of c _ f) $$ H3

/-- The receive buffer at entry: the strip of the own quarter and what each neighbour is given of a strip. -/
theorem r_open (c : Dev nD) : anyR (F := F) c Finset.univ ⊢
    iprop((bigSep Finset.univ fun s : Fin 4 => anyR (F := F) c (zset (qo c) s))
      ∗ (bigSep Finset.univ fun s : Fin 4 => lend (F := F) (nb 0 c) 0 s) ∗ (bigSep Finset.univ fun s : Fin 4 => lend (F := F) (nb 1 c) 1 s)) := by
  refine anyR_elim fun f => ?_
  rw [u_split (adds_r c fullShare f) (quad c) (quad_bij c), a_split (adds_r c fullShare f) (quad c 0), a_split (adds_r c fullShare f) (quad c 1),
    a_split (adds_r c fullShare f) (quad c 2), a_split (adds_r c fullShare f) (quad c 3)]
  rw [show (fun s : Fin 4 => rP c (zset (quad c 3) s) fullShare f) = fun s => iprop(rP c (bset (qd c) s 0) fullShare f ∗ rP c (bset (qd c) s 1) fullShare f) from
    funext fun s => z_split (adds_r c fullShare f) (qd c) s, bigSep_sep']
  iintro ⟨H0, H1, H2, H3, H4⟩
  isplitl [H0]
  · iapply (mono4 fun s => anyR_of c _ f) $$ H0
  isplitl [H1 H4]
  · unfold lend
    rw [bigSep_sep']
    rw [nb_nb, show opp 0 = 1 from rfl, show qo (nb 1 (nb 0 c)) = qd c from (by decide : ∀ c, qo (nb 1 (nb 0 c)) = qd c) c]
    isplitl [H1]
    · iapply (mono4 fun s => anyR_of c _ f) $$ H1
    iapply (mono4 fun s => anyR_of c _ f) $$ H4
  unfold lend
  rw [bigSep_sep']
  rw [nb_nb, show opp 1 = 0 from rfl, show qo (nb 0 (nb 1 c)) = qd c from (by decide : ∀ c, qo (nb 0 (nb 1 c)) = qd c) c]
  isplitl [H2]
  · iapply (mono4 fun s => anyR_of c _ f) $$ H2
  iapply (mono4 fun s => anyR_of c _ f) $$ H3

/-- The row sums' buffer at entry. -/
theorem s_open (c : Dev nD) : anyS (F := F) c Finset.univ ⊢ iprop(anyS (F := F) c (sset 0) ∗ anyS (F := F) c (sset 1)) := by
  refine anyS_elim fun f => ?_
  rw [s_split (adds_s c fullShare f)]
  iintro ⟨H0, H1⟩
  isplitl [H0]; iapply (anyS_of c _ f) $$ H0
  iapply (anyS_of c _ f) $$ H1

/-- The row sums' buffer at the end. -/
theorem s_shut (c : Dev nD) (f g : FVec F S2x256x8 .f32) : iprop(sP c (sset 0) fullShare f ∗ sP c (sset 1) fullShare g) ⊢ anyS (F := F) c Finset.univ := by
  have hd : Disjoint (sset 0) (sset 1) := Finset.disjoint_left.2 fun i h h' => by
    have := mem_sset.1 h; have := mem_sset.1 h'; simp at *; omega
  have hu : sset 0 ∪ sset 1 = (Finset.univ : Finset S2x256x8.Idx) := by
    ext i
    rw [Finset.mem_union, mem_sset, mem_sset]
    have h2 := (i 0).isLt
    simp [S2x256x8] at h2
    simp
    omega
  refine (show iprop(sP c (sset 0) fullShare f ∗ sP c (sset 1) fullShare g) ⊢ (sP c (sset 0 ∪ sset 1) fullShare ((sset 1).piecewise g f) : sProp 𝕄) from pointsTo_join hd).trans ?_
  rw [hu]
  exact anyS_of c _ _

/-- The buffer of exponentials at the end. -/
theorem e_shut (c : Dev nD) (f : BC F) :
    iprop((bigSep Finset.univ fun s : Fin 4 => eP c (zset (qo c) s) fullShare.left f) ∗ eP c (aset (qj c 0)) fullShare.right f ∗ eP c (aset (qj c 1)) fullShare f
        ∗ eP c (aset (qj c 2)) fullShare f ∗ eP c (aset (qj c 3)) fullShare f) ⊢ anyE (F := F) c Finset.univ := by
  refine BIBase.Entails.trans ?_ (anyE_of c _ f)
  rw [u_split (adds_e c fullShare f) (qj c) (qj_bij c), e_half c (aset (qj c 0)) fullShare f, a_split (adds_e c fullShare.left f) (qj c 0), qj_zero]
  iintro ⟨Ha, Hb, Hc⟩
  isplitl [Ha Hb]
  · isplitl [Ha]; iexact Ha
    iexact Hb
  iexact Hc

/-- The receive buffer at the end. -/
theorem r_shut (c : Dev nD) (f : BC F) :
    iprop(rP c (aset (qo c)) fullShare.right.right f
        ∗ (bigSep Finset.univ fun s : Fin 4 => iprop(rP c (zset (qo c) s) (psh 0) f ∗ rP c (zset (qo c) s) (psh 1) f))
        ∗ (bigSep Finset.univ fun s : Fin 4 => iprop(rP c (zset (qx c) s) fullShare.right f ∗ rP c (bset (qx c) s 0) fullShare.left f ∗ rP c (bset (qx c) s 1) fullShare.left f))
        ∗ (bigSep Finset.univ fun s : Fin 4 => iprop(rP c (zset (qy c) s) fullShare.right f ∗ rP c (bset (qy c) s 1) fullShare.left f ∗ rP c (bset (qy c) s 0) fullShare.left f))
        ∗ (bigSep Finset.univ fun s : Fin 4 => rP c (zset (qd c) s) fullShare f)) ⊢ anyR (F := F) c Finset.univ := by
  refine BIBase.Entails.trans ?_ (anyR_of c _ f)
  rw [u_split (adds_r c fullShare f) (quad c) (quad_bij c)]
  iintro ⟨H0, H1, H2, H3, H4⟩
  isplitl [H0 H1]
  · ihave H1 := (show (bigSep Finset.univ fun s : Fin 4 => iprop(rP c (zset (qo c) s) (psh 0) f ∗ rP c (zset (qo c) s) (psh 1) f) : sProp 𝕄)
        ⊢ iprop(rP c (aset (qo c)) fullShare.left f ∗ rP c (aset (qo c)) fullShare.right.left f) from
      Entails.of_eq (by rw [a_split (adds_r c fullShare.left f), a_split (adds_r c fullShare.right.left f), ← bigSep_sep']; rfl)) $$ H1
    icases H1 with ⟨H1, Hb⟩
    iapply (Entails.of_eq (r_half c (aset (qo c)) fullShare f).symm)
    isplitl [H1]; iexact H1
    iapply (Entails.of_eq (r_half c (aset (qo c)) fullShare.right f).symm)
    isplitl [Hb]; iexact Hb
    iexact H0
  isplitl [H2]
  · iapply (Entails.of_eq (a_split (adds_r c fullShare f) (qx c)).symm)
    iapply (mono4 fun s => ?_) $$ H2
    rw [r_half c (zset (qx c) s) fullShare f, z_split (adds_r c fullShare.left f)]
    iintro ⟨Ha, Hb, Hc⟩
    isplitl [Hb Hc]
    · isplitl [Hb]; iexact Hb
      iexact Hc
    iexact Ha
  isplitl [H3]
  · iapply (Entails.of_eq (a_split (adds_r c fullShare f) (qy c)).symm)
    iapply (mono4 fun s => ?_) $$ H3
    rw [r_half c (zset (qy c) s) fullShare f, z_split (adds_r c fullShare.left f)]
    iintro ⟨Ha, Hb, Hc⟩
    isplitl [Hb Hc]
    · isplitl [Hc]; iexact Hc
      iexact Hb
    iexact Ha
  iapply (Entails.of_eq (a_split (adds_r c fullShare f) (qd c)).symm)
  iexact H4

end Cert.KernelIdeal.Soft
-- ==== Proof.Comms.lean ====
/- The kernel's sends and waits with their payloads. -/
module

public import proofs.«01_k».proof.Proof.Parts

@[expose] public section

set_option maxRecDepth 16384

noncomputable section

namespace Cert.KernelIdeal.Soft

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

variable (A : Args F)

/-- The right to be paid at a cell of device `c`. -/
abbrev tokD (c : Dev nD) (q : DmaSem sig) : sProp 𝕄 := dutyTok ER (dcell c q) 0 0
abbrev atD (c : Dev nD) (q : DmaSem sig) : sProp 𝕄 := atPos ER (dcell c q) 0 ∅ 0
abbrev crD (c : Dev nD) (q : DmaSem sig) (n : ℕ) : sProp 𝕄 := cred (tallyAt (dcell c q) () n)
abbrev zeroD (c : Dev nD) (q : DmaSem sig) : sProp 𝕄 := semVal (dcell c q) 0

/-- A strip of the own quarter sent across `z`. -/
theorem sendZr (c n : Dev nD) (s : Fin 4) (z : ZOff (qo c) s) (hn : n = zp c) (l : List Tk) (K : PUnit → sProp 𝕄) :
    iprop(ctx A ∗ eP c (zset (qo c) s) fullShare.left (A.EB c) ∗ anyR (F := F) (zp c) (zset (qo c) s) ∗ ow c (.q (zrS s) :: l) ∗ tokD c (zsS s) ∗ tokD (zp c) (zrS s)
        ∗ ((crD c (zsS s) NZ ∗ ow c l) -∗ K ⟨⟩))
      ⊢ WP c (snZ eM eW z n (zsS s) (zrS s)) K := by
  subst hn
  unfold anyR
  iintro ⟨#HC, Hs, ⟨%f, Hd⟩, H⟩
  have h := sendD A c (zp c) (zsS s) (zrS s) (.zs s) (.zr s) (kd_zs s) (kd_zr s) (fun h => by cases h) (fun h => by cases h) rfl l (zV eM z) (zV rM z) rfl
    (zV_words eM eW z) (zV_words rM rW z) ⟨⟨rfl, Or.inl rfl⟩, trivial⟩ rfl rfl fullShare.left (A.EB c) f
    (by rw [zV_e_set]; exact .rfl)
    (by
      rw [zV_r_set]
      have hX : ∀ i ∈ zset (qo c) s, A.EB c i = A.XB (zp c) i := fun i hi => XB_zp A c s i (by rw [qo_zp]; exact hi)
      show _ ⊢ rP (zp c) (zset (qo (zp c)) s) fullShare (A.XB (zp c))
      rw [qo_zp]
      exact Entails.of_eq (pointsTo_congr fun i hi => (land_er z f (A.EB c) i hi).trans (hX i hi))) K
  rw [zV_e_set, zV_r_set] at h
  iapply h
  isplitr; iexact HC
  isplitl [Hs]; iexact Hs
  isplitl [Hd]; iexact Hd
  iexact H

/-- A strip received across `z` sent on to the neighbour of direction `r`. -/
theorem sendPr (r : Fin 2) (c n : Dev nD) (s : Fin 4) (z : ZOff (qo c) s) (hn : n = nb r c) (l : List Tk) (K : PUnit → sProp 𝕄) :
    iprop(ctx A ∗ rP c (zset (qo c) s) (psh r) (A.XB c) ∗ anyR (F := F) (nb r c) (zset (qo c) s) ∗ ow c (.q (prS r s) :: l) ∗ tokD c (psS r s) ∗ tokD (nb r c) (prS r s)
        ∗ ((crD c (psS r s) NZ ∗ ow c l) -∗ K ⟨⟩))
      ⊢ WP c (snZ rM rW z n (psS r s) (prS r s)) K := by
  subst hn
  unfold anyR
  iintro ⟨#HC, Hs, ⟨%f, Hd⟩, H⟩
  have h := sendD A c (nb r c) (psS r s) (prS r s) (.ps r s) (.pr r s) (kd_ps r s) (kd_pr r s) (fun h => by cases h) (fun h => by cases h) rfl l (zV rM z) (zV rM z) rfl
    (zV_words rM rW z) (zV_words rM rW z) ⟨⟨rfl, Or.inl rfl⟩, trivial⟩ rfl rfl (psh r) (A.XB c) f
    (by rw [zV_r_set]; exact .rfl)
    (by
      rw [zV_r_set]
      show _ ⊢ rP (nb r c) (zset (qo (nb r (nb r c))) s) fullShare (A.XB (nb r c))
      rw [nb_nb, XB_nb]
      exact Entails.of_eq (pointsTo_congr fun i hi => land_rr z f (A.XB c) i hi)) K
  rw [zV_r_set] at h
  iapply h
  isplitr; iexact HC
  isplitl [Hs]; iexact Hs
  isplitl [Hd]; iexact Hd
  iexact H

theorem qd_nb : ∀ (r : Fin 2) (c : Dev nD), qd (nb (opp r) c) = qo (nb r c) := by decide
/-- A block received from the neighbour of direction `r` forwarded to the other neighbour. -/
theorem sendFr (r : Fin 2) (c n : Dev nD) (s : Fin 4) (f : BOff (qo (nb r c)) s r) (hn : n = nb (opp r) c) (l : List Tk) (K : PUnit → sProp 𝕄) :
    iprop(ctx A ∗ rP c (bset (qo (nb r c)) s r) fullShare.left (A.XB c) ∗ anyR (F := F) (nb (opp r) c) (bset (qo (nb r c)) s r)
        ∗ ow c (.q (frS (opp r) s) :: l) ∗ tokD c (fsS r s) ∗ tokD (nb (opp r) c) (frS (opp r) s)
        ∗ ((crD c (fsS r s) NH ∗ ow c l) -∗ K ⟨⟩))
      ⊢ WP c (snH f n (fsS r s) (frS (opp r) s)) K := by
  subst hn
  unfold anyR
  iintro ⟨#HC, Hs, ⟨%g, Hd⟩, H⟩
  have h := sendD A c (nb (opp r) c) (fsS r s) (frS (opp r) s) (.fs r s) (.fr (opp r) s) (kd_fs r s) (kd_fr (opp r) s) (fun h => by cases h) (fun h => by cases h) rfl l (hV rM f) (hV rM f) rfl
    (hV_words rM rW f) (hV_words rM rW f) ⟨⟨rfl, Or.inl rfl⟩, trivial⟩ rfl rfl fullShare.left (A.XB c) g
    (by rw [hV_r_set]; exact .rfl)
    (by
      rw [hV_r_set]
      show _ ⊢ rP (nb (opp r) c) (bset (qd (nb (opp r) c)) s (opp (opp r))) fullShare (A.XB (nb (opp r) c))
      rw [opp_opp, qd_nb, XB_nb]
      exact Entails.of_eq (pointsTo_congr fun i hi => land_h f g (A.XB c) i hi)) K
  rw [hV_r_set] at h
  iapply h
  isplitr; iexact HC
  isplitl [Hs]; iexact Hs
  isplitl [Hd]; iexact Hd
  iexact H

/-- The own row sums stored and sent across `z`. -/
theorem stat_ok (c n : Dev nD) (hn : n = zp c) (l : List Tk) (K : PUnit → sProp 𝕄) :
    iprop(ctx A ∗ anyS (F := F) c (sset 0) ∗ anyS (F := F) (zp c) (sset 1) ∗ ow c (.q (stS 1) :: l) ∗ tokD c (stS 0) ∗ tokD (zp c) (stS 1)
        ∗ ((crD c (stS 0) NS ∗ ow c l) -∗ K ⟨⟩))
      ⊢ WP c (statB n (A.AC c).1 (A.AC c).2) K := by
  subst hn
  unfold anyS
  iintro ⟨#HC, ⟨%f, Hs⟩, ⟨%g, Hd⟩, H⟩
  have h := sendD A c (zp c) (stS 0) (stS 1) .st0 .st1 kd_st0 kd_st1 (fun h => by cases h) (fun h => by cases h) rfl l sV0 sV1 rfl
    ((View.wordExact_bits rfl).reshape _ _) ((View.wordExact_bits rfl).reshape _ _) ⟨⟨rfl, Or.inl rfl⟩, trivial⟩ rfl rfl fullShare (A.SB c) g
    (by rw [sV0_set]; exact .rfl)
    (by
      rw [sV1_set]
      show _ ⊢ sP (zp c) (sset 1) fullShare (A.SB (zp (zp c)))
      rw [zp_zp]
      exact Entails.of_eq (pointsTo_congr fun i hi => land_s A c g i hi)) K
  rw [sV0_set, sV1_set] at h
  unfold statB WP
  rw [wp_bind]
  unfold Prog.lift
  iapply (wp_load_rect 𝒱₀ (c : Thread nD τ) none Set.univ (m := sM) (r := sR0) (S := sset 0) (f := f) (by rw [acc_s0])) $$ Hs
  iintro Hs
  iapply (ret_intro (F := F) c _)
  imodintro
  rw [Prog.bind_op]
  iapply (wp_store 𝒱₀ (c : Thread nD τ) none Set.univ (m := sM) (r := sR0) (Mk := Finset.univ) (S := sset 0) (f := f) (by rw [View.setOn_univ, acc_s0])) $$ Hs
  iintro Hs
  rw [Prog.bind_ret]
  ihave Hs := (show (((sM.access sR0).loc (c : Thread nD τ) ↦[sset 0]{fullShare} (sM.access sR0).write (Elt F) f (k0_pay61 (A.AC c).1 (A.AC c).2) Finset.univ) : sProp 𝕄) ⊢ sP c (sset 0) fullShare (A.SB c) from
    Entails.of_eq (pointsTo_congr fun i hi => write_on (Val := Elt F) (sM.access sR0) f (A.SB c) _
      (by
        rw [read_s0]; funext j; unfold Args.SB
        refine congrArg _ ?_
        rw [eq_ix3 j]
        have h0 := (j 0).isLt
        simp [S1x256x8] at h0
        refine congrArg (fun a : Fin 1 => ix3 a (j 1 : Fin 256) (j 2 : Fin 8)) (Fin.ext ?_)
        show 0 = (j 0).val
        omega) i (by rw [acc_s0]; exact hi))) $$ Hs
  iapply h
  isplitr; iexact HC
  isplitl [Hs]; iexact Hs
  isplitl [Hd]; iexact Hd
  iexact H

/-! ## The waits -/
section
variable (c : Dev nD) (l : List Tk)

theorem waitZr (s : Fin 4) (hl : ∀ t ∈ l, 2 < tlv t) {a} (z : ZOff a s) (K : PUnit → sProp 𝕄) :
    iprop(ctx A ∗ crD c (zrS s) NZ ∗ ow c l ∗ atD c (zrS s) ∗ ((ow c l ∗ zeroD c (zrS s) ∗ rP c (zset (qo c) s) fullShare (A.XB c)) -∗ K ⟨⟩))
      ⊢ WP c (wtZ eM rM eW rW z (zrS s)) K :=
  waitD A c _ (.zr s) (kd_zr s) (fun h => by cases h) l hl _ _ _ _ rfl K
theorem waitPr (r : Fin 2) (s : Fin 4) (hl : ∀ t ∈ l, 4 < tlv t) {a} (z : ZOff a s) (K : PUnit → sProp 𝕄) :
    iprop(ctx A ∗ crD c (prS r s) NZ ∗ ow c l ∗ atD c (prS r s) ∗ ((ow c l ∗ zeroD c (prS r s) ∗ rP c (zset (qo (nb r c)) s) fullShare (A.XB c)) -∗ K ⟨⟩))
      ⊢ WP c (wtZ rM rM rW rW z (prS r s)) K :=
  waitD A c _ (.pr r s) (kd_pr r s) (fun h => by cases h) l hl _ _ _ _ rfl K
theorem waitFr (r : Fin 2) (s : Fin 4) (hl : ∀ t ∈ l, 5 < tlv t) {a h} (f : BOff a s h) (K : PUnit → sProp 𝕄) :
    iprop(ctx A ∗ crD c (frS r s) NH ∗ ow c l ∗ atD c (frS r s) ∗ ((ow c l ∗ zeroD c (frS r s) ∗ rP c (bset (qd c) s (opp r)) fullShare (A.XB c)) -∗ K ⟨⟩))
      ⊢ WP c (wtH f (frS r s)) K :=
  waitD A c _ (.fr r s) (kd_fr r s) (fun h => by cases h) l hl _ _ _ _ rfl K
theorem waitZs (s : Fin 4) (hl : ∀ t ∈ l, 0 < tlv t) {a} (z : ZOff a s) (K : PUnit → sProp 𝕄) :
    iprop(ctx A ∗ crD c (zsS s) NZ ∗ ow c l ∗ atD c (zsS s) ∗ ((ow c l ∗ zeroD c (zsS s) ∗ eP c (zset (qo c) s) fullShare.left (A.EB c)) -∗ K ⟨⟩))
      ⊢ WP c (wtZ rM eM rW eW z (zsS s)) K :=
  waitD A c _ (.zs s) (kd_zs s) (fun h => by cases h) l hl _ _ _ _ rfl K
theorem waitPs (r : Fin 2) (s : Fin 4) (hl : ∀ t ∈ l, 0 < tlv t) {a} (z : ZOff a s) (K : PUnit → sProp 𝕄) :
    iprop(ctx A ∗ crD c (psS r s) NZ ∗ ow c l ∗ atD c (psS r s) ∗ ((ow c l ∗ zeroD c (psS r s) ∗ rP c (zset (qo c) s) (psh r) (A.XB c)) -∗ K ⟨⟩))
      ⊢ WP c (wtZ rM rM rW rW z (psS r s)) K :=
  waitD A c _ (.ps r s) (kd_ps r s) (fun h => by cases h) l hl _ _ _ _ rfl K
theorem waitFs (r : Fin 2) (s : Fin 4) (hl : ∀ t ∈ l, 0 < tlv t) {a h} (f : BOff a s h) (K : PUnit → sProp 𝕄) :
    iprop(ctx A ∗ crD c (fsS r s) NH ∗ ow c l ∗ atD c (fsS r s) ∗ ((ow c l ∗ zeroD c (fsS r s) ∗ rP c (bset (qo (nb r c)) s r) fullShare.left (A.XB c)) -∗ K ⟨⟩))
      ⊢ WP c (wtH f (fsS r s)) K :=
  waitD A c _ (.fs r s) (kd_fs r s) (fun h => by cases h) l hl _ _ _ _ rfl K
theorem waitSt0 (hl : ∀ t ∈ l, 0 < tlv t) (h₁ h₂) (K : PUnit → sProp 𝕄) :
    iprop(ctx A ∗ crD c (stS 0) NS ∗ ow c l ∗ atD c (stS 0) ∗ ((ow c l ∗ zeroD c (stS 0) ∗ sP c (sset 0) fullShare (A.SB c)) -∗ K ⟨⟩))
      ⊢ WP c (Prog.lift (.waitDma2 (stS 0) sV1 sV0 h₁ h₂)) K :=
  waitD A c _ .st0 kd_st0 (fun h => by cases h) l hl _ _ _ _ rfl K
theorem waitSt1 (hl : ∀ t ∈ l, 3 < tlv t) (h₁ h₂) (K : PUnit → sProp 𝕄) :
    iprop(ctx A ∗ crD c (stS 1) NS ∗ ow c l ∗ atD c (stS 1) ∗ ((ow c l ∗ zeroD c (stS 1) ∗ sP c (sset 1) fullShare (A.SB (zp c))) -∗ K ⟨⟩))
      ⊢ WP c (Prog.lift (.waitDma2 (stS 1) sV0 sV1 h₁ h₂)) K :=
  waitD A c _ .st1 kd_st1 (fun h => by cases h) l hl _ _ _ _ rfl K
end

/-- A program that only returns a value. -/
theorem pure_intro {α : Type} (c : Dev nD) (v : α) (K : α → sProp 𝕄) : K v ⊢ WP c (Pure.pure v) K := by
  iintro H
  iapply (ret_intro (F := F) c K)
  imodintro
  iexact H

/-- The other half's row sums received, and the reciprocal of the whole. -/
theorem sum_ok (c : Dev nD) (l : List Tk) (hl : ∀ t ∈ l, 3 < tlv t) (K : FVec F S256x1 .f32 → sProp 𝕄) :
    iprop(ctx A ∗ crD c (stS 1) NS ∗ ow c l ∗ atD c (stS 1) ∗ ((ow c l ∗ zeroD c (stS 1) ∗ sP c (sset 1) fullShare (A.SB (zp c))) -∗ K (A.INV c)))
      ⊢ WP c (sumB (k0_pay60 (A.AC c).1 (A.AC c).2)) K := by
  iintro ⟨#HC, Hcr, Ho, Hat, HK⟩
  unfold sumB WP
  rw [wp_bind]
  iapply (waitSt1 A c l hl _ _ _)
  isplitr; iexact HC
  isplitl [Hcr]; iexact Hcr
  isplitl [Ho]; iexact Ho
  isplitl [Hat]; iexact Hat
  iintro ⟨Ho, Hz, Hp⟩
  rw [wp_bind]
  unfold Prog.lift
  iapply (wp_load_rect 𝒱₀ (c : Thread nD τ) none Set.univ (m := sM) (r := sR1') (S := sset 1) (f := A.SB (zp c)) acc_s1) $$ Hp
  iintro Hp
  iapply (ret_intro (F := F) c _)
  imodintro
  iapply (show (K (A.INV c) : sProp 𝕄) ⊢ WP c (Pure.pure (k0_pay62 (k0_pay60 (A.AC c).1 (A.AC c).2) ((sM.access sR1').read (Elt F) (A.SB (zp c))))) K from by
    rw [read_s1]
    exact pure_intro c (A.INV c) K)
  iapply HK
  isplitl [Ho]; iexact Ho
  isplitl [Hz]; iexact Hz
  iexact Hp

end Cert.KernelIdeal.Soft
-- ==== Proof.Phases.lean ====
/- The phases of the kernel's body, each with what it needs and what it leaves. -/
module

public import proofs.«01_k».proof.Proof.Comms

@[expose] public section

set_option maxRecDepth 16384

noncomputable section

namespace Cert.KernelIdeal.Soft

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

variable (A : Args F)

theorem partE_any (c : Dev nD) (S : Finset BI) (G : BC F) : anyE (F := F) c S ⊢ partE c S G [] := anyE_elim fun f => partE_start c S G f

/-! ## The exponentials -/

/-- What a strip of the own quarter needs. -/
def ownIn (c : Dev nD) (s : Fin 4) : sProp 𝕄 :=
  iprop(tokD c (zsS s) ∗ tokD (zp c) (zrS s) ∗ anyR (F := F) (zp c) (zset (qo c) s) ∗ anyE (F := F) c (zset (qo c) s))
/-- What it leaves. -/
def ownOut (c : Dev nD) (s : Fin 4) : sProp 𝕄 := iprop(crD c (zsS s) NZ ∗ eP c (zset (qo c) s) fullShare.right (A.EB c))

theorem own_ok (c : Dev nD) (s : Fin 4) (l : List Tk) (K : FVec F S256x256 .f32 → sProp 𝕄) :
    iprop(ctx A ∗ wP c (A.w c) ∗ ow c (.q (zrS s) :: l) ∗ ownIn (F := F) c s
        ∗ ((wP c (A.w c) ∗ ow c l ∗ ownOut A c s) -∗ K (k0_pay3 (A.x c) (wS (A.w c) ⟨4 * (qo c).val + s.val, by omega⟩))))
      ⊢ WP c (ownS c s (A.x c)) K := by
  have hc : ∀ i ∈ zset (qo c) s, ∃ T ∈ [bset (qo c) s 1, bset (qo c) s 0], i ∈ T := by
    intro i hi
    have hi' := mem_zset.1 hi
    have h2 := (i 2).isLt
    simp [S4x4x2x256x128] at h2
    rcases (show (i 2).val = 0 ∨ (i 2).val = 1 by omega) with h | h
    · exact ⟨bset (qo c) s 0, by simp, mem_bset.2 ⟨hi'.1, hi'.2, h⟩⟩
    · exact ⟨bset (qo c) s 1, by simp, mem_bset.2 ⟨hi'.1, hi'.2, h⟩⟩
  unfold ownIn ownOut
  iintro ⟨#HC, Hw, Ho, ⟨Ht, Ht', Hr, He⟩, HK⟩
  unfold ownS ownB WP
  rw [wp_bind]
  iapply (ldW c (uE c s) (A.w c) _ _) $$ [-]
  isplitl [Hw]; iexact Hw
  iintro Hw
  rw [wp_bind]
  ihave He := (partE_any c _ (A.EB c)) $$ He
  iapply (stE c (bE c s 0) _ _ (A.EB c) [] (bset_sub_zset _ _ _) (own0 A c s) _) $$ [-]
  isplitl [He]; iexact He
  iintro He
  rw [wp_bind]
  iapply (stE c (bE c s 1) _ _ (A.EB c) _ (bset_sub_zset _ _ _) (own1 A c s) _) $$ [-]
  isplitl [He]; iexact He
  iintro He
  ihave He := (partE_done c _ (A.EB c) _ hc) $$ He
  ihave He := (show (eP c (zset (qo c) s) fullShare (A.EB c) : sProp 𝕄) ⊢ _ from Entails.of_eq (e_half c (zset (qo c) s) fullShare (A.EB c))) $$ He
  icases He with ⟨He, He'⟩
  rw [wp_bind]
  iapply (sendZr A c (nz c s) s (zE c s) (nz_eq c s) l _) $$ [-]
  isplitr; iexact HC
  isplitl [He]; iexact He
  isplitl [Hr]; iexact Hr
  isplitl [Ho]; iexact Ho
  isplitl [Ht]; iexact Ht
  isplitl [Ht']; iexact Ht'
  iintro ⟨Hc, Ho⟩
  iapply (pure_intro (F := F) c _ K)
  iapply HK
  isplitl [Hw]; iexact Hw
  isplitl [Ho]; iexact Ho
  isplitl [Hc]; iexact Hc
  iexact He'

theorem oth_ok (c : Dev nD) (j : Fin 4) (hj : j ≠ 0) (K : FVec F S256x1024 .f32 → sProp 𝕄) :
    iprop(wP c (A.w c) ∗ anyE (F := F) c (aset (qj c j))
        ∗ ((wP c (A.w c) ∗ eP c (aset (qj c j)) fullShare (A.EB c)) -∗ K (k0_pay49 (k0_pay1 (A.x c)) (wQ (A.w c) (qj c j)))))
      ⊢ WP c (othB (wj c j hj) (bj c j) (A.x c)) K := by
  have ha := qj_ne c j hj
  have hs : ∀ s h, bset (qj c j) s h ⊆ aset (qj c j) := fun s h => bset_sub_aset _ _ _
  have hc : ∀ i ∈ aset (qj c j), ∃ T ∈ [bset (qj c j) 3 1, bset (qj c j) 3 0, bset (qj c j) 2 1, bset (qj c j) 2 0, bset (qj c j) 1 1, bset (qj c j) 1 0, bset (qj c j) 0 1, bset (qj c j) 0 0], i ∈ T := by
    intro i hi
    have hm : ∀ (s : Fin 4) (h : Fin 2), bset (qj c j) s h ∈ [bset (qj c j) 3 1, bset (qj c j) 3 0, bset (qj c j) 2 1, bset (qj c j) 2 0, bset (qj c j) 1 1, bset (qj c j) 1 0, bset (qj c j) 0 1, bset (qj c j) 0 0] := by
      intro s h; fin_cases s <;> fin_cases h <;> simp
    exact ⟨_, hm (i 1 : Fin 4) (i 2 : Fin 2), mem_bset.2 ⟨mem_aset.1 hi, rfl, rfl⟩⟩
  iintro ⟨Hw, He, HK⟩
  unfold othB WP
  rw [wp_bind]
  iapply (ldQ c (wj c j hj) (A.w c) _ _) $$ [-]
  isplitl [Hw]; iexact Hw
  iintro Hw
  ihave He := (partE_any c _ (A.EB c)) $$ He
  rw [wp_bind]
  iapply (stE c (bj c j 0 0) _ _ (A.EB c) _ (hs _ _) (oth00 A c _ ha) _) $$ [-]
  isplitl [He]; iexact He
  iintro He
  rw [wp_bind]
  iapply (stE c (bj c j 0 1) _ _ (A.EB c) _ (hs _ _) (oth01 A c _ ha) _) $$ [-]
  isplitl [He]; iexact He
  iintro He
  rw [wp_bind]
  iapply (stE c (bj c j 1 0) _ _ (A.EB c) _ (hs _ _) (oth10 A c _ ha) _) $$ [-]
  isplitl [He]; iexact He
  iintro He
  rw [wp_bind]
  iapply (stE c (bj c j 1 1) _ _ (A.EB c) _ (hs _ _) (oth11 A c _ ha) _) $$ [-]
  isplitl [He]; iexact He
  iintro He
  rw [wp_bind]
  iapply (stE c (bj c j 2 0) _ _ (A.EB c) _ (hs _ _) (oth20 A c _ ha) _) $$ [-]
  isplitl [He]; iexact He
  iintro He
  rw [wp_bind]
  iapply (stE c (bj c j 2 1) _ _ (A.EB c) _ (hs _ _) (oth21 A c _ ha) _) $$ [-]
  isplitl [He]; iexact He
  iintro He
  rw [wp_bind]
  iapply (stE c (bj c j 3 0) _ _ (A.EB c) _ (hs _ _) (oth30 A c _ ha) _) $$ [-]
  isplitl [He]; iexact He
  iintro He
  rw [wp_bind]
  iapply (stE c (bj c j 3 1) _ _ (A.EB c) _ (hs _ _) (oth31 A c _ ha) _) $$ [-]
  isplitl [He]; iexact He
  iintro He
  ihave He := (partE_done c _ (A.EB c) _ hc) $$ He
  iapply (pure_intro (F := F) c _ K)
  iapply HK
  isplitl [Hw]; iexact Hw
  iexact He

theorem comp_ok (c : Dev nD) (K : FVec F S256x1 .f32 × FVec F S256x1024 .f32 → sProp 𝕄) :
    iprop(ctx A ∗ wP c (A.w c) ∗ ow c ownL ∗ (bigSep Finset.univ fun s : Fin 4 => ownIn (F := F) c s)
        ∗ (anyE (F := F) c (aset (qj c 1)) ∗ anyE (F := F) c (aset (qj c 2)) ∗ anyE (F := F) c (aset (qj c 3)))
        ∗ ((wP c (A.w c) ∗ ow c statL ∗ (bigSep Finset.univ fun s : Fin 4 => ownOut A c s)
            ∗ (eP c (aset (qj c 1)) fullShare (A.EB c) ∗ eP c (aset (qj c 2)) fullShare (A.EB c) ∗ eP c (aset (qj c 3)) fullShare (A.EB c))) -∗ K (A.AC c)))
      ⊢ WP c (compB c (A.x c)) K := by
  rw [four, four]
  iintro ⟨#HC, Hw, Ho, ⟨Ha, Hb, Hc, Hd⟩, ⟨H1, H2, H3⟩, HK⟩
  unfold compB WP ownL
  rw [wp_bind]
  iapply (own_ok A c 0 _ _) $$ [-]
  isplitr; iexact HC
  isplitl [Hw]; iexact Hw
  isplitl [Ho]; iexact Ho
  isplitl [Ha]; iexact Ha
  iintro ⟨Hw, Ho, Ha⟩
  rw [wp_bind]
  iapply (own_ok A c 1 _ _) $$ [-]
  isplitr; iexact HC
  isplitl [Hw]; iexact Hw
  isplitl [Ho]; iexact Ho
  isplitl [Hb]; iexact Hb
  iintro ⟨Hw, Ho, Hb⟩
  rw [wp_bind]
  iapply (own_ok A c 2 _ _) $$ [-]
  isplitr; iexact HC
  isplitl [Hw]; iexact Hw
  isplitl [Ho]; iexact Ho
  isplitl [Hc]; iexact Hc
  iintro ⟨Hw, Ho, Hc⟩
  rw [wp_bind]
  iapply (own_ok A c 3 _ _) $$ [-]
  isplitr; iexact HC
  isplitl [Hw]; iexact Hw
  isplitl [Ho]; iexact Ho
  isplitl [Hd]; iexact Hd
  iintro ⟨Hw, Ho, Hd⟩
  rw [wp_bind]
  iapply (oth_ok A c 1 _ _) $$ [-]
  isplitl [Hw]; iexact Hw
  isplitl [H1]; iexact H1
  iintro ⟨Hw, H1⟩
  rw [wp_bind]
  iapply (oth_ok A c 2 _ _) $$ [-]
  isplitl [Hw]; iexact Hw
  isplitl [H2]; iexact H2
  iintro ⟨Hw, H2⟩
  rw [wp_bind]
  iapply (oth_ok A c 3 _ _) $$ [-]
  isplitl [Hw]; iexact Hw
  isplitl [H3]; iexact H3
  iintro ⟨Hw, H3⟩
  iapply (show (K (A.AC c) : sProp 𝕄) ⊢ _ from pure_intro (F := F) c (A.AC c) K)
  iapply HK
  isplitl [Hw]; iexact Hw
  isplitl [Ho]; iexact Ho
  isplitl [Ha Hb Hc Hd]
  · isplitl [Ha]; iexact Ha
    isplitl [Hb]; iexact Hb
    isplitl [Hc]; iexact Hc
    iexact Hd
  isplitl [H1]; iexact H1
  isplitl [H2]; iexact H2
  iexact H3

/-! ## Passing on -/

def passIn (c : Dev nD) (s : Fin 4) : sProp 𝕄 :=
  iprop(atD c (zrS s) ∗ crD c (zrS s) NZ ∗ (tokD c (psS 0 s) ∗ tokD (nb 0 c) (prS 0 s) ∗ anyR (F := F) (nb 0 c) (zset (qo c) s))
    ∗ (tokD c (psS 1 s) ∗ tokD (nb 1 c) (prS 1 s) ∗ anyR (F := F) (nb 1 c) (zset (qo c) s)))
def passOut (c : Dev nD) (s : Fin 4) : sProp 𝕄 :=
  iprop(zeroD c (zrS s) ∗ crD c (psS 0 s) NZ ∗ crD c (psS 1 s) NZ ∗ rP c (zset (qo c) s) fullShare.right.right (A.XB c))

theorem pass_ok (c : Dev nD) (s : Fin 4) (l : List Tk) (hl : ∀ t ∈ (Tk.q (prS 0 s) :: Tk.q (prS 1 s) :: l), 2 < tlv t) (K : PUnit → sProp 𝕄) :
    iprop(ctx A ∗ ow c (.q (prS 0 s) :: .q (prS 1 s) :: l) ∗ passIn (F := F) c s ∗ ((ow c l ∗ passOut A c s) -∗ K ⟨⟩)) ⊢ WP c (passS c s) K := by
  unfold passIn passOut
  iintro ⟨#HC, Ho, ⟨Hat, Hcr, ⟨Ta, Tb, Ra⟩, ⟨Tc, Td, Rb⟩⟩, HK⟩
  unfold passS passB WP
  rw [wp_bind]
  iapply (waitZr A c _ s hl (zE c s) _) $$ [-]
  isplitr; iexact HC
  isplitl [Hcr]; iexact Hcr
  isplitl [Ho]; iexact Ho
  isplitl [Hat]; iexact Hat
  iintro ⟨Ho, Hz, Hr⟩
  ihave Hr := (show (rP c (zset (qo c) s) fullShare (A.XB c) : sProp 𝕄) ⊢ iprop(rP c (zset (qo c) s) (psh 0) (A.XB c) ∗ rP c (zset (qo c) s) (psh 1) (A.XB c) ∗ rP c (zset (qo c) s) fullShare.right.right (A.XB c)) from
    Entails.of_eq (by rw [r_half c _ fullShare, r_half c _ fullShare.right]; rfl)) $$ Hr
  icases Hr with ⟨R0, R1, R2⟩
  rw [wp_bind]
  iapply (sendPr A 0 c (nx c s) s (zE c s) (nx_eq c s) _ _) $$ [-]
  isplitr; iexact HC
  isplitl [R0]; iexact R0
  isplitl [Ra]; iexact Ra
  isplitl [Ho]; iexact Ho
  isplitl [Ta]; iexact Ta
  isplitl [Tb]; iexact Tb
  iintro ⟨Hca, Ho⟩
  iapply (sendPr A 1 c (ny c s) s (zE c s) (ny_eq c s) _ _) $$ [-]
  isplitr; iexact HC
  isplitl [R1]; iexact R1
  isplitl [Rb]; iexact Rb
  isplitl [Ho]; iexact Ho
  isplitl [Tc]; iexact Tc
  isplitl [Td]; iexact Td
  iintro ⟨Hcb, Ho⟩
  iapply HK
  isplitl [Ho]; iexact Ho
  isplitl [Hz]; iexact Hz
  isplitl [Hca]; iexact Hca
  isplitl [Hcb]; iexact Hcb
  iexact R2

/-- What is still owed after each strip is passed on. -/
def passL3 : List Tk := .q (prS 0 3) :: .q (prS 1 3) :: tailL
def passL2 : List Tk := .q (prS 0 2) :: .q (prS 1 2) :: passL3
def passL1 : List Tk := .q (prS 0 1) :: .q (prS 1 1) :: passL2

theorem mid_ok (c : Dev nD) (K : FVec F S256x1 .f32 → sProp 𝕄) :
    iprop(ctx A ∗ ow c passL ∗ (bigSep Finset.univ fun s : Fin 4 => passIn (F := F) c s) ∗ (crD c (stS 1) NS ∗ atD c (stS 1))
        ∗ ((ow c tailL ∗ (bigSep Finset.univ fun s : Fin 4 => passOut A c s) ∗ (zeroD c (stS 1) ∗ sP c (sset 1) fullShare (A.SB (zp c)))) -∗ K (A.INV c)))
      ⊢ WP c (midB c (k0_pay60 (A.AC c).1 (A.AC c).2)) K := by
  rw [four, four]
  iintro ⟨#HC, Ho, ⟨Ha, Hb, Hc, Hd⟩, ⟨Hcr, Hat⟩, HK⟩
  unfold midB WP
  rw [wp_bind]
  iapply (pass_ok A c 0 passL1 (by decide +kernel) _) $$ [-]
  isplitr; iexact HC
  isplitl [Ho]; iexact Ho
  isplitl [Ha]; iexact Ha
  iintro ⟨Ho, Ha⟩
  rw [wp_bind]
  iapply (pass_ok A c 1 passL2 (by decide +kernel) _) $$ [-]
  isplitr; iexact HC
  isplitl [Ho]; iexact Ho
  isplitl [Hb]; iexact Hb
  iintro ⟨Ho, Hb⟩
  rw [wp_bind]
  iapply (pass_ok A c 2 passL3 (by decide +kernel) _) $$ [-]
  isplitr; iexact HC
  isplitl [Ho]; iexact Ho
  isplitl [Hc]; iexact Hc
  iintro ⟨Ho, Hc⟩
  rw [wp_bind]
  iapply (pass_ok A c 3 tailL (by decide +kernel) _) $$ [-]
  isplitr; iexact HC
  isplitl [Ho]; iexact Ho
  isplitl [Hd]; iexact Hd
  iintro ⟨Ho, Hd⟩
  iapply (sum_ok A c tailL (by decide +kernel) K) $$ [-]
  isplitr; iexact HC
  isplitl [Hcr]; iexact Hcr
  isplitl [Ho]; iexact Ho
  isplitl [Hat]; iexact Hat
  iintro ⟨Ho, Hz, Hs⟩
  iapply HK
  isplitl [Ho]; iexact Ho
  isplitl [Ha Hb Hc Hd]
  · isplitl [Ha]; iexact Ha
    isplitl [Hb]; iexact Hb
    isplitl [Hc]; iexact Hc
    iexact Hd
  isplitl [Hz]; iexact Hz
  iexact Hs

end Cert.KernelIdeal.Soft
-- ==== Proof.Ends.lean ====
/- The later phases of the kernel's body, each with what it needs and what it leaves. -/
module

public import proofs.«01_k».proof.Proof.Phases

@[expose] public section

set_option maxRecDepth 16384

noncomputable section

namespace Cert.KernelIdeal.Soft

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

variable (A : Args F)

/-! ## The output tiles -/

def halfL (c : Dev nD) (j : Fin 4) (l : List (Fin 32)) : List (Fin 32) :=
  tno (zc c) (qj c j) 3 :: tno (zc c) (qj c j) 2 :: tno (zc c) (qj c j) 1 :: tno (zc c) (qj c j) 0 :: l

theorem half_ok (c : Dev nD) (j : Fin 4) (q : PosShare TreeShare) (l : List (Fin 32)) (K : PUnit → sProp 𝕄) :
    iprop(eP c (aset (qj c j)) q (A.EB c) ∗ partO c (A.OUT c) l ∗ ((eP c (aset (qj c j)) q (A.EB c) ∗ partO c (A.OUT c) (halfL c j l)) -∗ K ⟨⟩))
      ⊢ WP c (halfB c j (A.INV c)) K := by
  iintro ⟨He, Ho, HK⟩
  unfold halfB WP halfL
  rw [wp_bind]
  iapply (outE c (bj c j 0 0) (bj c j 0 1) (toj c j 0) (A.INV c) _ q (A.EB c) (A.OUT c) _ (bset_sub_aset _ _ _) (bset_sub_aset _ _ _) (tile_own A c (qj c j) 0) _) $$ [-]
  isplitl [He]; iexact He
  isplitl [Ho]; iexact Ho
  iintro ⟨He, Ho⟩
  rw [wp_bind]
  iapply (outE c (bj c j 1 0) (bj c j 1 1) (toj c j 1) (A.INV c) _ q (A.EB c) (A.OUT c) _ (bset_sub_aset _ _ _) (bset_sub_aset _ _ _) (tile_own A c (qj c j) 1) _) $$ [-]
  isplitl [He]; iexact He
  isplitl [Ho]; iexact Ho
  iintro ⟨He, Ho⟩
  rw [wp_bind]
  iapply (outE c (bj c j 2 0) (bj c j 2 1) (toj c j 2) (A.INV c) _ q (A.EB c) (A.OUT c) _ (bset_sub_aset _ _ _) (bset_sub_aset _ _ _) (tile_own A c (qj c j) 2) _) $$ [-]
  isplitl [He]; iexact He
  isplitl [Ho]; iexact Ho
  iintro ⟨He, Ho⟩
  iapply (outE c (bj c j 3 0) (bj c j 3 1) (toj c j 3) (A.INV c) _ q (A.EB c) (A.OUT c) _ (bset_sub_aset _ _ _) (bset_sub_aset _ _ _) (tile_own A c (qj c j) 3) _) $$ [-]
  isplitl [He]; iexact He
  isplitl [Ho]; iexact Ho
  iintro ⟨He, Ho⟩
  iapply HK
  isplitl [He]; iexact He
  iexact Ho

def tileL (c : Dev nD) (l : List (Fin 32)) : List (Fin 32) :=
  tno (zo c) (qo c) 3 :: tno (zo c) (qo c) 2 :: tno (zo c) (qo c) 1 :: tno (zo c) (qo c) 0 :: halfL c 3 (halfL c 2 (halfL c 1 (halfL c 0 l)))

theorem tile_ok (c : Dev nD) (q0 q1 : PosShare TreeShare) (K : PUnit → sProp 𝕄) :
    iprop(eP c (aset (qj c 0)) q0 (A.EB c) ∗ eP c (aset (qj c 1)) fullShare (A.EB c) ∗ eP c (aset (qj c 2)) fullShare (A.EB c) ∗ eP c (aset (qj c 3)) fullShare (A.EB c)
        ∗ rP c (aset (qo c)) q1 (A.XB c) ∗ partO c (A.OUT c) []
        ∗ ((eP c (aset (qj c 0)) q0 (A.EB c) ∗ eP c (aset (qj c 1)) fullShare (A.EB c) ∗ eP c (aset (qj c 2)) fullShare (A.EB c) ∗ eP c (aset (qj c 3)) fullShare (A.EB c)
            ∗ rP c (aset (qo c)) q1 (A.XB c) ∗ partO c (A.OUT c) (tileL c [])) -∗ K ⟨⟩))
      ⊢ WP c (tileB c (A.INV c)) K := by
  iintro ⟨H0, H1, H2, H3, Hr, Ho, HK⟩
  unfold tileB WP tileL
  rw [wp_bind]
  iapply (half_ok A c 0 _ _ _) $$ [-]
  isplitl [H0]; iexact H0
  isplitl [Ho]; iexact Ho
  iintro ⟨H0, Ho⟩
  rw [wp_bind]
  iapply (half_ok A c 1 _ _ _) $$ [-]
  isplitl [H1]; iexact H1
  isplitl [Ho]; iexact Ho
  iintro ⟨H1, Ho⟩
  rw [wp_bind]
  iapply (half_ok A c 2 _ _ _) $$ [-]
  isplitl [H2]; iexact H2
  isplitl [Ho]; iexact Ho
  iintro ⟨H2, Ho⟩
  rw [wp_bind]
  iapply (half_ok A c 3 _ _ _) $$ [-]
  isplitl [H3]; iexact H3
  isplitl [Ho]; iexact Ho
  iintro ⟨H3, Ho⟩
  unfold tileS
  rw [wp_bind]
  iapply (outR c (bE c 0 0) (bE c 0 1) (tE c 0) (A.INV c) _ q1 (A.XB c) (A.OUT c) _ (bset_sub_aset _ _ _) (bset_sub_aset _ _ _) (tile_oth A c (qo c) 0) _) $$ [-]
  isplitl [Hr]; iexact Hr
  isplitl [Ho]; iexact Ho
  iintro ⟨Hr, Ho⟩
  rw [wp_bind]
  iapply (outR c (bE c 1 0) (bE c 1 1) (tE c 1) (A.INV c) _ q1 (A.XB c) (A.OUT c) _ (bset_sub_aset _ _ _) (bset_sub_aset _ _ _) (tile_oth A c (qo c) 1) _) $$ [-]
  isplitl [Hr]; iexact Hr
  isplitl [Ho]; iexact Ho
  iintro ⟨Hr, Ho⟩
  rw [wp_bind]
  iapply (outR c (bE c 2 0) (bE c 2 1) (tE c 2) (A.INV c) _ q1 (A.XB c) (A.OUT c) _ (bset_sub_aset _ _ _) (bset_sub_aset _ _ _) (tile_oth A c (qo c) 2) _) $$ [-]
  isplitl [Hr]; iexact Hr
  isplitl [Ho]; iexact Ho
  iintro ⟨Hr, Ho⟩
  iapply (outR c (bE c 3 0) (bE c 3 1) (tE c 3) (A.INV c) _ q1 (A.XB c) (A.OUT c) _ (bset_sub_aset _ _ _) (bset_sub_aset _ _ _) (tile_oth A c (qo c) 3) _) $$ [-]
  isplitl [Hr]; iexact Hr
  isplitl [Ho]; iexact Ho
  iintro ⟨Hr, Ho⟩
  iapply HK
  isplitl [H0]; iexact H0
  isplitl [H1]; iexact H1
  isplitl [H2]; iexact H2
  isplitl [H3]; iexact H3
  isplitl [Hr]; iexact Hr
  iexact Ho

/-! ## Forwarding -/

def hopIn (c : Dev nD) (r : Fin 2) (s : Fin 4) : sProp 𝕄 :=
  iprop(atD c (prS r s) ∗ crD c (prS r s) NZ ∗ tokD c (fsS r s) ∗ tokD (nb (opp r) c) (frS (opp r) s) ∗ anyR (F := F) (nb (opp r) c) (bset (qo (nb r c)) s r))
def hopOut (c : Dev nD) (r : Fin 2) (s : Fin 4) : sProp 𝕄 :=
  iprop(zeroD c (prS r s) ∗ crD c (fsS r s) NH ∗ rP c (zset (qo (nb r c)) s) fullShare.right (A.XB c) ∗ rP c (bset (qo (nb r c)) s (opp r)) fullShare.left (A.XB c))

theorem sep_le (P Q : sProp 𝕄) : iprop(P ∗ Q) ⊢ iprop(Q ∗ P) := by
  iintro ⟨H, H'⟩
  isplitl [H']; iexact H'
  iexact H
theorem sep_swap (P Q : sProp 𝕄) : iprop(P ∗ Q) = iprop(Q ∗ P) := Entails.antisymm (sep_le P Q) (sep_le Q P)

/-- A strip's left share is that of the block of direction `r` and that of the other. -/
theorem z_two (c : Dev nD) (r : Fin 2) (a s : Fin 4) (q : PosShare TreeShare) (f : BC F) : rP c (zset a s) q f = iprop(rP c (bset a s r) q f ∗ rP c (bset a s (opp r)) q f) := by
  rw [z_split (adds_r c q f)]
  match r with
  | 0 => rfl
  | 1 => exact sep_swap _ _

theorem fwd_ok (c n : Dev nD) (r : Fin 2) (s : Fin 4) (f : BOff (qo (nb r c)) s r) (hn : n = nb (opp r) c) (b0 : BOff (qo (nb r c)) s 0) (b1 : BOff (qo (nb r c)) s 1)
    (o : TOff (tno (zo c) (qo (nb r c)) s)) (l : List Tk) (hl : ∀ t ∈ (Tk.q (frS (opp r) s) :: l), 4 < tlv t) (lt : List (Fin 32)) (K : PUnit → sProp 𝕄) :
    iprop(ctx A ∗ ow c (.q (frS (opp r) s) :: l) ∗ hopIn (F := F) c r s ∗ partO c (A.OUT c) lt
        ∗ ((ow c l ∗ hopOut A c r s ∗ partO c (A.OUT c) (tno (zo c) (qo (nb r c)) s :: lt)) -∗ K ⟨⟩))
      ⊢ WP c (fwdB s r (opp r) (zE c s) f n b0 b1 o (A.INV c)) K := by
  unfold hopIn hopOut
  iintro ⟨#HC, Ho, ⟨Hat, Hcr, Ta, Tb, Ra⟩, HO, HK⟩
  unfold fwdB WP
  rw [wp_bind]
  iapply (waitPr A c _ r s hl (zE c s) _) $$ [-]
  isplitr; iexact HC
  isplitl [Hcr]; iexact Hcr
  isplitl [Ho]; iexact Ho
  isplitl [Hat]; iexact Hat
  iintro ⟨Ho, Hz, Hr⟩
  ihave Hr := (show (rP c (zset (qo (nb r c)) s) fullShare (A.XB c) : sProp 𝕄) ⊢ iprop((rP c (bset (qo (nb r c)) s r) fullShare.left (A.XB c) ∗ rP c (bset (qo (nb r c)) s (opp r)) fullShare.left (A.XB c)) ∗ rP c (zset (qo (nb r c)) s) fullShare.right (A.XB c)) from
    Entails.of_eq (by rw [r_half c _ fullShare, z_two c r])) $$ Hr
  icases Hr with ⟨⟨R0, R1⟩, R2⟩
  rw [wp_bind]
  iapply (sendFr A r c n s f hn _ _) $$ [-]
  isplitr; iexact HC
  isplitl [R0]; iexact R0
  isplitl [Ra]; iexact Ra
  isplitl [Ho]; iexact Ho
  isplitl [Ta]; iexact Ta
  isplitl [Tb]; iexact Tb
  iintro ⟨Hc, Ho⟩
  iapply (outR c b0 b1 o (A.INV c) _ _ (A.XB c) (A.OUT c) _ (bset_sub_zset _ _ _) (bset_sub_zset _ _ _) (tile_oth A c (qo (nb r c)) s) K) $$ [-]
  isplitl [R2]; iexact R2
  isplitl [HO]; iexact HO
  iintro ⟨R2, HO⟩
  iapply HK
  isplitl [Ho]; iexact Ho
  isplitr [HO]
  · isplitl [Hz]; iexact Hz
    isplitl [Hc]; iexact Hc
    isplitl [R2]; iexact R2
    iexact R1
  iexact HO

def hopL (c : Dev nD) (s : Fin 4) (lt : List (Fin 32)) : List (Fin 32) := tno (zo c) (qo (nb 1 c)) s :: tno (zo c) (qo (nb 0 c)) s :: lt

theorem hopS_ok (c : Dev nD) (s : Fin 4) (l : List Tk) (hl : ∀ t ∈ (Tk.q (frS 1 s) :: Tk.q (frS 0 s) :: l), 4 < tlv t) (lt : List (Fin 32)) (K : PUnit → sProp 𝕄) :
    iprop(ctx A ∗ ow c (.q (frS 1 s) :: .q (frS 0 s) :: l) ∗ (hopIn (F := F) c 0 s ∗ hopIn (F := F) c 1 s) ∗ partO c (A.OUT c) lt
        ∗ ((ow c l ∗ (hopOut A c 0 s ∗ hopOut A c 1 s) ∗ partO c (A.OUT c) (hopL c s lt)) -∗ K ⟨⟩))
      ⊢ WP c (hopS c s (A.INV c)) K := by
  have h1 : ∀ t ∈ (Tk.q (frS 0 s) :: l), 4 < tlv t := fun t ht => hl t (List.mem_cons_of_mem _ ht)
  iintro ⟨#HC, Ho, ⟨Ha, Hb⟩, HO, HK⟩
  unfold hopS WP hopL
  rw [wp_bind]
  iapply (fwd_ok A c (fy c s) 0 s (hx c s) (fy_eq c s) (bx c s 0) (bx c s 1) (tx c s) (Tk.q (frS 0 s) :: l) hl lt _) $$ [-]
  isplitr; iexact HC
  isplitl [Ho]; iexact Ho
  isplitl [Ha]; iexact Ha
  isplitl [HO]; iexact HO
  iintro ⟨Ho, Ha, HO⟩
  iapply (fwd_ok A c (fx c s) 1 s (hy c s) (fx_eq c s) (by_ c s 0) (by_ c s 1) (ty c s) l h1 _ K) $$ [-]
  isplitr; iexact HC
  isplitl [Ho]; iexact Ho
  isplitl [Hb]; iexact Hb
  isplitl [HO]; iexact HO
  iintro ⟨Ho, Hb, HO⟩
  iapply HK
  isplitl [Ho]; iexact Ho
  isplitl [Ha Hb]
  · isplitl [Ha]; iexact Ha
    iexact Hb
  iexact HO

def tailL3 : List Tk := [.q (frS 1 3), .q (frS 0 3)]
def tailL2 : List Tk := .q (frS 1 2) :: .q (frS 0 2) :: tailL3
def tailL1 : List Tk := .q (frS 1 1) :: .q (frS 0 1) :: tailL2

theorem hop_ok (c : Dev nD) (lt : List (Fin 32)) (K : PUnit → sProp 𝕄) :
    iprop(ctx A ∗ ow c tailL ∗ (bigSep Finset.univ fun s : Fin 4 => iprop(hopIn (F := F) c 0 s ∗ hopIn (F := F) c 1 s)) ∗ partO c (A.OUT c) lt
        ∗ ((ow c [] ∗ (bigSep Finset.univ fun s : Fin 4 => iprop(hopOut A c 0 s ∗ hopOut A c 1 s)) ∗ partO c (A.OUT c) (hopL c 3 (hopL c 2 (hopL c 1 (hopL c 0 lt))))) -∗ K ⟨⟩))
      ⊢ WP c (hopB c (A.INV c)) K := by
  rw [four, four]
  iintro ⟨#HC, Ho, ⟨H0, H1, H2, H3⟩, HO, HK⟩
  unfold hopB WP
  rw [wp_bind]
  iapply (hopS_ok A c 0 tailL1 (by decide +kernel) _ _) $$ [-]
  isplitr; iexact HC
  isplitl [Ho]; iexact Ho
  isplitl [H0]; iexact H0
  isplitl [HO]; iexact HO
  iintro ⟨Ho, H0, HO⟩
  rw [wp_bind]
  iapply (hopS_ok A c 1 tailL2 (by decide +kernel) _ _) $$ [-]
  isplitr; iexact HC
  isplitl [Ho]; iexact Ho
  isplitl [H1]; iexact H1
  isplitl [HO]; iexact HO
  iintro ⟨Ho, H1, HO⟩
  rw [wp_bind]
  iapply (hopS_ok A c 2 tailL3 (by decide +kernel) _ _) $$ [-]
  isplitr; iexact HC
  isplitl [Ho]; iexact Ho
  isplitl [H2]; iexact H2
  isplitl [HO]; iexact HO
  iintro ⟨Ho, H2, HO⟩
  iapply (hopS_ok A c 3 [] (by decide +kernel) _ _) $$ [-]
  isplitr; iexact HC
  isplitl [Ho]; iexact Ho
  isplitl [H3]; iexact H3
  isplitl [HO]; iexact HO
  iintro ⟨Ho, H3, HO⟩
  iapply HK
  isplitl [Ho]; iexact Ho
  isplitr [HO]
  · isplitl [H0]; iexact H0
    isplitl [H1]; iexact H1
    isplitl [H2]; iexact H2
    iexact H3
  iexact HO

/-! ## The end -/

def finIn (c : Dev nD) (s : Fin 4) : sProp 𝕄 := iprop((atD c (frS 0 s) ∗ crD c (frS 0 s) NH) ∗ (atD c (frS 1 s) ∗ crD c (frS 1 s) NH))
def finOut (c : Dev nD) (s : Fin 4) : sProp 𝕄 := iprop(zeroD c (frS 0 s) ∗ zeroD c (frS 1 s) ∗ rP c (zset (qd c) s) fullShare (A.XB c))

theorem no_lev (n : ℕ) : ∀ t ∈ ([] : List Tk), n < tlv t := fun t ht => absurd ht (List.not_mem_nil)

theorem fin_ok (c : Dev nD) (s : Fin 4) (lt : List (Fin 32)) (K : PUnit → sProp 𝕄) :
    iprop(ctx A ∗ ow c [] ∗ finIn (F := F) c s ∗ partO c (A.OUT c) lt
        ∗ ((ow c [] ∗ finOut A c s ∗ partO c (A.OUT c) (tno (zo c) (qd c) s :: lt)) -∗ K ⟨⟩))
      ⊢ WP c (finS c s (A.INV c)) K := by
  unfold finIn finOut
  iintro ⟨#HC, Ho, ⟨⟨Aa, Ca⟩, ⟨Ab, Cb⟩⟩, HO, HK⟩
  unfold finS finB WP
  rw [wp_bind]
  iapply (waitFr A c [] 0 s (no_lev _) (h1 c s) _) $$ [-]
  isplitr; iexact HC
  isplitl [Ca]; iexact Ca
  isplitl [Ho]; iexact Ho
  isplitl [Aa]; iexact Aa
  iintro ⟨Ho, Za, Ra⟩
  rw [wp_bind]
  iapply (waitFr A c [] 1 s (no_lev _) (h0 c s) _) $$ [-]
  isplitr; iexact HC
  isplitl [Cb]; iexact Cb
  isplitl [Ho]; iexact Ho
  isplitl [Ab]; iexact Ab
  iintro ⟨Ho, Zb, Rb⟩
  ihave Hr := (show (iprop(rP c (bset (qd c) s (opp 1)) fullShare (A.XB c) ∗ rP c (bset (qd c) s (opp 0)) fullShare (A.XB c)) : sProp 𝕄) ⊢ rP c (zset (qd c) s) fullShare (A.XB c) from
    Entails.of_eq (z_split (adds_r c fullShare (A.XB c)) (qd c) s).symm) $$ [Ra Rb]
  · isplitl [Rb]; iexact Rb
    iexact Ra
  iapply (outR c (bd c s 0) (bd c s 1) (td c s) (A.INV c) _ _ (A.XB c) (A.OUT c) _ (bset_sub_zset _ _ _) (bset_sub_zset _ _ _) (tile_oth A c (qd c) s) K) $$ [-]
  isplitl [Hr]; iexact Hr
  isplitl [HO]; iexact HO
  iintro ⟨Hr, HO⟩
  iapply HK
  isplitl [Ho]; iexact Ho
  isplitr [HO]
  · isplitl [Za]; iexact Za
    isplitl [Zb]; iexact Zb
    iexact Hr
  iexact HO

def awayIn (c : Dev nD) (s : Fin 4) : sProp 𝕄 := iprop(atD c (zsS s) ∗ crD c (zsS s) NZ)
def awayOut (c : Dev nD) (s : Fin 4) : sProp 𝕄 := iprop(zeroD c (zsS s) ∗ eP c (zset (qo c) s) fullShare.left (A.EB c))

theorem away_ok (c : Dev nD) (s : Fin 4) (K : PUnit → sProp 𝕄) :
    iprop(ctx A ∗ ow c [] ∗ awayIn (F := F) c s ∗ ((ow c [] ∗ awayOut A c s) -∗ K ⟨⟩)) ⊢ WP c (awayS c s) K := by
  unfold awayIn awayOut
  iintro ⟨#HC, Ho, ⟨Ha, Hc⟩, HK⟩
  unfold awayS
  iapply (waitZs A c [] s (no_lev _) (zE c s) K) $$ [-]
  isplitr; iexact HC
  isplitl [Hc]; iexact Hc
  isplitl [Ho]; iexact Ho
  isplitl [Ha]; iexact Ha
  iexact HK

def endIn (c : Dev nD) (s : Fin 4) : sProp 𝕄 :=
  iprop((atD c (psS 0 s) ∗ crD c (psS 0 s) NZ) ∗ (atD c (psS 1 s) ∗ crD c (psS 1 s) NZ) ∗ (atD c (fsS 0 s) ∗ crD c (fsS 0 s) NH) ∗ (atD c (fsS 1 s) ∗ crD c (fsS 1 s) NH))
def endOut (c : Dev nD) (s : Fin 4) : sProp 𝕄 :=
  iprop((zeroD c (psS 0 s) ∗ rP c (zset (qo c) s) (psh 0) (A.XB c)) ∗ (zeroD c (psS 1 s) ∗ rP c (zset (qo c) s) (psh 1) (A.XB c))
    ∗ (zeroD c (fsS 0 s) ∗ rP c (bset (qo (nb 0 c)) s 0) fullShare.left (A.XB c)) ∗ (zeroD c (fsS 1 s) ∗ rP c (bset (qo (nb 1 c)) s 1) fullShare.left (A.XB c)))

theorem end_ok (c : Dev nD) (s : Fin 4) (K : PUnit → sProp 𝕄) :
    iprop(ctx A ∗ ow c [] ∗ endIn (F := F) c s ∗ ((ow c [] ∗ endOut A c s) -∗ K ⟨⟩)) ⊢ WP c (endS c s) K := by
  unfold endIn endOut
  iintro ⟨#HC, Ho, ⟨⟨A0, C0⟩, ⟨A1, C1⟩, ⟨A2, C2⟩, ⟨A3, C3⟩⟩, HK⟩
  unfold endS endB WP
  rw [wp_bind]
  iapply (waitPs A c [] 0 s (no_lev _) (zE c s) _) $$ [-]
  isplitr; iexact HC
  isplitl [C0]; iexact C0
  isplitl [Ho]; iexact Ho
  isplitl [A0]; iexact A0
  iintro ⟨Ho, Z0, R0⟩
  rw [wp_bind]
  iapply (waitPs A c [] 1 s (no_lev _) (zE c s) _) $$ [-]
  isplitr; iexact HC
  isplitl [C1]; iexact C1
  isplitl [Ho]; iexact Ho
  isplitl [A1]; iexact A1
  iintro ⟨Ho, Z1, R1⟩
  rw [wp_bind]
  iapply (waitFs A c [] 0 s (no_lev _) (hx c s) _) $$ [-]
  isplitr; iexact HC
  isplitl [C2]; iexact C2
  isplitl [Ho]; iexact Ho
  isplitl [A2]; iexact A2
  iintro ⟨Ho, Z2, R2⟩
  iapply (waitFs A c [] 1 s (no_lev _) (hy c s) _) $$ [-]
  isplitr; iexact HC
  isplitl [C3]; iexact C3
  isplitl [Ho]; iexact Ho
  isplitl [A3]; iexact A3
  iintro ⟨Ho, Z3, R3⟩
  iapply HK
  isplitl [Ho]; iexact Ho
  isplitl [Z0 R0]
  · isplitl [Z0]; iexact Z0
    iexact R0
  isplitl [Z1 R1]
  · isplitl [Z1]; iexact Z1
    iexact R1
  isplitl [Z2 R2]
  · isplitl [Z2]; iexact Z2
    iexact R2
  isplitl [Z3]; iexact Z3
  iexact R3

/-- The output tiles once all are written. -/
def doneL (c : Dev nD) : List (Fin 32) :=
  tno (zo c) (qd c) 3 :: tno (zo c) (qd c) 2 :: tno (zo c) (qd c) 1 :: tno (zo c) (qd c) 0 :: hopL c 3 (hopL c 2 (hopL c 1 (hopL c 0 (tileL c []))))
theorem doneL_all : ∀ (c : Dev nD) (t : Fin 32), t ∈ doneL c := by decide +kernel

theorem last_ok (c : Dev nD) (K : PUnit → sProp 𝕄) :
    iprop(ctx A ∗ ow c [] ∗ (bigSep Finset.univ fun s : Fin 4 => finIn (F := F) c s) ∗ (bigSep Finset.univ fun s : Fin 4 => awayIn (F := F) c s)
        ∗ (atD c (stS 0) ∗ crD c (stS 0) NS) ∗ (bigSep Finset.univ fun s : Fin 4 => endIn (F := F) c s)
        ∗ partO c (A.OUT c) (hopL c 3 (hopL c 2 (hopL c 1 (hopL c 0 (tileL c [])))))
        ∗ ((ow c [] ∗ (bigSep Finset.univ fun s : Fin 4 => finOut A c s) ∗ (bigSep Finset.univ fun s : Fin 4 => awayOut A c s)
            ∗ (zeroD c (stS 0) ∗ sP c (sset 0) fullShare (A.SB c)) ∗ (bigSep Finset.univ fun s : Fin 4 => endOut A c s) ∗ oP c (A.OUT c)) -∗ K ⟨⟩))
      ⊢ WP c (lastB c (A.INV c)) K := by
  rw [four, four, four, four, four, four]
  iintro ⟨#HC, Ho, ⟨F0, F1, F2, F3⟩, ⟨W0, W1, W2, W3⟩, ⟨Sa, Sc⟩, ⟨E0, E1, E2, E3⟩, HO, HK⟩
  unfold lastB WP
  rw [wp_bind]
  iapply (fin_ok A c 0 _ _) $$ [-]
  isplitr; iexact HC
  isplitl [Ho]; iexact Ho
  isplitl [F0]; iexact F0
  isplitl [HO]; iexact HO
  iintro ⟨Ho, F0, HO⟩
  rw [wp_bind]
  iapply (fin_ok A c 1 _ _) $$ [-]
  isplitr; iexact HC
  isplitl [Ho]; iexact Ho
  isplitl [F1]; iexact F1
  isplitl [HO]; iexact HO
  iintro ⟨Ho, F1, HO⟩
  rw [wp_bind]
  iapply (fin_ok A c 2 _ _) $$ [-]
  isplitr; iexact HC
  isplitl [Ho]; iexact Ho
  isplitl [F2]; iexact F2
  isplitl [HO]; iexact HO
  iintro ⟨Ho, F2, HO⟩
  rw [wp_bind]
  iapply (fin_ok A c 3 _ _) $$ [-]
  isplitr; iexact HC
  isplitl [Ho]; iexact Ho
  isplitl [F3]; iexact F3
  isplitl [HO]; iexact HO
  iintro ⟨Ho, F3, HO⟩
  rw [wp_bind]
  iapply (away_ok A c 0 _) $$ [-]
  isplitr; iexact HC
  isplitl [Ho]; iexact Ho
  isplitl [W0]; iexact W0
  iintro ⟨Ho, W0⟩
  rw [wp_bind]
  iapply (away_ok A c 1 _) $$ [-]
  isplitr; iexact HC
  isplitl [Ho]; iexact Ho
  isplitl [W1]; iexact W1
  iintro ⟨Ho, W1⟩
  rw [wp_bind]
  iapply (away_ok A c 2 _) $$ [-]
  isplitr; iexact HC
  isplitl [Ho]; iexact Ho
  isplitl [W2]; iexact W2
  iintro ⟨Ho, W2⟩
  rw [wp_bind]
  iapply (away_ok A c 3 _) $$ [-]
  isplitr; iexact HC
  isplitl [Ho]; iexact Ho
  isplitl [W3]; iexact W3
  iintro ⟨Ho, W3⟩
  rw [wp_bind]
  iapply (waitSt0 A c [] (no_lev _) _ _ _) $$ [-]
  isplitr; iexact HC
  isplitl [Sc]; iexact Sc
  isplitl [Ho]; iexact Ho
  isplitl [Sa]; iexact Sa
  iintro ⟨Ho, Sa, Sc⟩
  rw [wp_bind]
  iapply (end_ok A c 0 _) $$ [-]
  isplitr; iexact HC
  isplitl [Ho]; iexact Ho
  isplitl [E0]; iexact E0
  iintro ⟨Ho, E0⟩
  rw [wp_bind]
  iapply (end_ok A c 1 _) $$ [-]
  isplitr; iexact HC
  isplitl [Ho]; iexact Ho
  isplitl [E1]; iexact E1
  iintro ⟨Ho, E1⟩
  rw [wp_bind]
  iapply (end_ok A c 2 _) $$ [-]
  isplitr; iexact HC
  isplitl [Ho]; iexact Ho
  isplitl [E2]; iexact E2
  iintro ⟨Ho, E2⟩
  iapply (end_ok A c 3 _) $$ [-]
  isplitr; iexact HC
  isplitl [Ho]; iexact Ho
  isplitl [E3]; iexact E3
  iintro ⟨Ho, E3⟩
  ihave HO := (show partO c (A.OUT c) (tno (zo c) (qd c) 3 :: tno (zo c) (qd c) 2 :: tno (zo c) (qd c) 1 :: tno (zo c) (qd c) 0 :: hopL c 3 (hopL c 2 (hopL c 1 (hopL c 0 (tileL c []))))) ⊢ oP c (A.OUT c) from partO_done c (A.OUT c) (doneL c) (doneL_all c)) $$ HO
  iapply HK
  isplitl [Ho]; iexact Ho
  isplitl [F0 F1 F2 F3]
  · isplitl [F0]; iexact F0
    isplitl [F1]; iexact F1
    isplitl [F2]; iexact F2
    iexact F3
  isplitl [W0 W1 W2 W3]
  · isplitl [W0]; iexact W0
    isplitl [W1]; iexact W1
    isplitl [W2]; iexact W2
    iexact W3
  isplitl [Sa Sc]
  · isplitl [Sa]; iexact Sa
    iexact Sc
  isplitl [E0 E1 E2 E3]
  · isplitl [E0]; iexact E0
    isplitl [E1]; iexact E1
    isplitl [E2]; iexact E2
    iexact E3
  iexact HO

end Cert.KernelIdeal.Soft
-- ==== Proof.Body.lean ====
/- The whole body of the kernel on one device. -/
module

public import proofs.«01_k».proof.Proof.Ends

@[expose] public section

set_option maxRecDepth 16384

noncomputable section

namespace Cert.KernelIdeal.Soft

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type} [FloatOps F]

local notation "𝕄" => MT nD τ sig Unit (Elt F) ℕ UU ℕ

variable (A : Args F)

/-! ## Families over the DMA semaphores -/

/-- A family at the ten semaphores of a strip. -/
def famS (Φ : DmaSem sig → sProp 𝕄) (s : Fin 4) : sProp 𝕄 :=
  iprop(Φ (zsS s) ∗ Φ (zrS s) ∗ Φ (psS 0 s) ∗ Φ (psS 1 s) ∗ Φ (prS 0 s) ∗ Φ (prS 1 s) ∗ Φ (fsS 0 s) ∗ Φ (fsS 1 s) ∗ Φ (frS 0 s) ∗ Φ (frS 1 s))
/-- A family at every DMA semaphore of the protocol. -/
def fam (Φ : DmaSem sig → sProp 𝕄) : sProp 𝕄 := iprop((bigSep Finset.univ fun s : Fin 4 => famS Φ s) ∗ Φ (stS 0) ∗ Φ (stS 1))

/-- The right to pay at a semaphore, on the device that this one pays there. -/
abbrev tokOn (c : Dev nD) (q : DmaSem sig) : sProp 𝕄 := tokD (kpd (kd q) c) q
/-- The credits at the receive semaphores of a strip. -/
def crS (c : Dev nD) (s : Fin 4) : sProp 𝕄 := iprop(crD c (zrS s) NZ ∗ crD c (prS 0 s) NZ ∗ crD c (prS 1 s) NZ ∗ crD c (frS 0 s) NH ∗ crD c (frS 1 s) NH)

/-- What a device starts with besides its buffers. -/
def res (c : Dev nD) : sProp 𝕄 :=
  iprop(atPos ER (barCell c) 0 ∅ 0 ∗ fam (F := F) (atD c)
    ∗ (dutyTok ER (barCell (nbar 0 c)) 0 0 ∗ dutyTok ER (barCell (nbar 1 c)) 0 1 ∗ dutyTok ER (barCell (nbar 2 c)) 0 2) ∗ fam (F := F) (tokOn c)
    ∗ cred (tallyAt (barCell c) () 3) ∗ (bigSep Finset.univ fun s : Fin 4 => crS (F := F) c s) ∗ crD c (stS 1) NS)
/-- The counters at the end. -/
def zeros (c : Dev nD) : sProp 𝕄 := iprop(semVal (barCell c) 0 ∗ fam (F := F) (zeroD c))

theorem tok_strip (c : Dev nD) (s : Fin 4) : famS (F := F) (tokOn c) s =
    iprop(tokD c (zsS s) ∗ tokD (zp c) (zrS s) ∗ tokD c (psS 0 s) ∗ tokD c (psS 1 s) ∗ tokD (nb 0 c) (prS 0 s) ∗ tokD (nb 1 c) (prS 1 s)
      ∗ tokD c (fsS 0 s) ∗ tokD c (fsS 1 s) ∗ tokD (nb 0 c) (frS 0 s) ∗ tokD (nb 1 c) (frS 1 s)) := by
  unfold famS tokOn
  rw [kd_zs, kd_zr, kd_ps, kd_ps, kd_pr, kd_pr, kd_fs, kd_fs, kd_fr, kd_fr]
  rfl

/-! ## The entry -/

theorem read_x (c : Dev nD) (hin) (f : Vec F S256x512 .bf16) : (xM.access (Rect.unit (s := S256x512) ![0, 0] S256x512.size hin)).read (Elt F) f = f := by
  funext i
  refine congrArg f (funext fun k => Fin.ext ?_)
  match k with
  | ⟨0, _⟩ => show 0 + 1 * (i 0).val = (i 0).val; omega
  | ⟨1, _⟩ => show 0 + 1 * (i 1).val = (i 1).val; omega

theorem dev_bar0 : ∀ c : Dev nD, (⟨k0_dev1 c, k0_dev1_lt c⟩ : Dev nD) = nbar 0 c := by decide +kernel
theorem dev_bar1 : ∀ c : Dev nD, (⟨k0_dev2 c, k0_dev2_lt c⟩ : Dev nD) = nbar 1 c := by decide +kernel
theorem dev_bar2 : ∀ c : Dev nD, (⟨k0_dev3 c, k0_dev3_lt c⟩ : Dev nD) = nbar 2 c := by decide +kernel
theorem dev_stat : ∀ c : Dev nD, (⟨k0_dev8 c, k0_dev8_lt c⟩ : Dev nD) = zp c := by decide +kernel

theorem start_ok (c : Dev nD) (K : Vec F S256x512 .bf16 → sProp 𝕄) :
    iprop(ctx A ∗ ow c payL ∗ anyR (F := F) c Finset.univ ∗ anyS (F := F) c Finset.univ
        ∗ (dutyTok ER (barCell (nbar 0 c)) 0 0 ∗ dutyTok ER (barCell (nbar 1 c)) 0 1 ∗ dutyTok ER (barCell (nbar 2 c)) 0 2)
        ∗ cred (tallyAt (barCell c) () 3) ∗ atPos ER (barCell c) 0 ∅ 0 ∗ xP c (A.x c)
        ∗ ((ow c ownL ∗ semVal (barCell c) 0 ∗ xP c (A.x c) ∗ anyS (F := F) c (sset 0) ∗ barPay (F := F) c 0 ∗ barPay (F := F) c 1 ∗ barPay (F := F) c 2) -∗ K (A.x c)))
      ⊢ WP c (startB c) K := by
  have e0 : barPay (F := F) (nbar 0 c) 0 = iprop((bigSep Finset.univ fun s : Fin 4 => anyR (F := F) c (zset (qo c) s)) ∗ anyS (F := F) c (sset 1)) := by
    show (iprop((bigSep Finset.univ fun s : Fin 4 => anyR (F := F) (zp (zp c)) (zset (qo (zp c)) s)) ∗ anyS (F := F) (zp (zp c)) (sset 1)) : sProp 𝕄) = _
    rw [zp_zp, qo_zp]
  iintro ⟨#HC, Ho, HR, HS, ⟨T0, T1, T2⟩, Hcr, Hat, Hx, HK⟩
  ihave HR := (r_open c) $$ HR
  icases HR with ⟨R0, R1, R2⟩
  ihave HS := (s_open c) $$ HS
  icases HS with ⟨S0, S1⟩
  ihave P0 := (show iprop((bigSep Finset.univ fun s : Fin 4 => anyR (F := F) c (zset (qo c) s)) ∗ anyS (F := F) c (sset 1)) ⊢ barPay (F := F) (nbar 0 c) 0 from Entails.of_eq e0.symm) $$ [R0 S1]
  · isplitl [R0]; iexact R0
    iexact S1
  ihave P1 := (show (bigSep Finset.univ fun s : Fin 4 => lend (F := F) (nb 0 c) 0 s : sProp 𝕄) ⊢ barPay (F := F) (nbar 1 c) 1 from .rfl) $$ R1
  ihave P2 := (show (bigSep Finset.univ fun s : Fin 4 => lend (F := F) (nb 1 c) 1 s : sProp 𝕄) ⊢ barPay (F := F) (nbar 2 c) 2 from .rfl) $$ R2
  unfold startB WP payL
  rw [wp_bind]
  iapply (sigB A c _ 0 (dev_bar0 c) _ _) $$ [-]
  isplitr; iexact HC
  isplitl [Ho]; iexact Ho
  isplitl [T0]; iexact T0
  isplitl [P0]; iexact P0
  iintro Ho
  rw [wp_bind]
  iapply (sigB A c _ 1 (dev_bar1 c) _ _) $$ [-]
  isplitr; iexact HC
  isplitl [Ho]; iexact Ho
  isplitl [T1]; iexact T1
  isplitl [P1]; iexact P1
  iintro Ho
  rw [wp_bind]
  iapply (sigB A c _ 2 (dev_bar2 c) _ _) $$ [-]
  isplitr; iexact HC
  isplitl [Ho]; iexact Ho
  isplitl [T2]; iexact T2
  isplitl [P2]; iexact P2
  iintro Ho
  rw [wp_bind]
  iapply (waitB A c ownL (by decide +kernel) _) $$ [-]
  isplitr; iexact HC
  isplitl [Hcr]; iexact Hcr
  isplitl [Ho]; iexact Ho
  isplitl [Hat]; iexact Hat
  iintro ⟨Ho, Hz, B0, B1, B2⟩
  unfold Prog.lift
  iapply (wp_load_rect 𝒱₀ (c : Thread nD τ) none Set.univ (m := xM) (r := Rect.unit (s := S256x512) ![0, 0] S256x512.size inb_S256x512_S256x512_0_0) (S := Finset.univ) (f := A.x c) (Finset.subset_univ _)) $$ Hx
  iintro Hx
  iapply (ret_intro (F := F) c K)
  imodintro
  rw [read_x c]
  iapply HK
  isplitl [Ho]; iexact Ho
  isplitl [Hz]; iexact Hz
  isplitl [Hx]; iexact Hx
  isplitl [S0]; iexact S0
  isplitl [B0]; iexact B0
  isplitl [B1]; iexact B1
  iexact B2

/-! ## Dealing out, strip by strip -/

/-- The positions kept for the end. -/
def atEnd (c : Dev nD) (s : Fin 4) : sProp 𝕄 := iprop(atD c (zsS s) ∗ atD c (psS 0 s) ∗ atD c (psS 1 s) ∗ atD c (fsS 0 s) ∗ atD c (fsS 1 s))

theorem deal_strip (c : Dev nD) (s : Fin 4) :
    iprop(famS (F := F) (atD c) s ∗ famS (F := F) (tokOn c) s ∗ crS (F := F) c s ∗ anyR (F := F) (zp c) (zset (qo c) s) ∗ lend (F := F) c 0 s ∗ lend (F := F) c 1 s ∗ anyE (F := F) c (zset (qo c) s))
      ⊢ iprop(ownIn (F := F) c s ∗ passIn (F := F) c s ∗ (hopIn (F := F) c 0 s ∗ hopIn (F := F) c 1 s) ∗ finIn (F := F) c s ∗ atEnd (F := F) c s) := by
  rw [tok_strip]
  unfold famS crS lend ownIn passIn hopIn finIn atEnd
  iintro ⟨⟨Azs, Azr, Aps0, Aps1, Apr0, Apr1, Afs0, Afs1, Afr0, Afr1⟩, ⟨Tzs, Tzr, Tps0, Tps1, Tpr0, Tpr1, Tfs0, Tfs1, Tfr0, Tfr1⟩, ⟨Czr, Cpr0, Cpr1, Cfr0, Cfr1⟩, Rz, ⟨L0, M0⟩, ⟨L1, M1⟩, E⟩
  isplitl [Tzs Tzr Rz E]
  · isplitl [Tzs]; iexact Tzs
    isplitl [Tzr]; iexact Tzr
    isplitl [Rz]; iexact Rz
    iexact E
  isplitl [Azr Czr Tps0 Tpr0 L0 Tps1 Tpr1 L1]
  · isplitl [Azr]; iexact Azr
    isplitl [Czr]; iexact Czr
    isplitl [Tps0 Tpr0 L0]
    · isplitl [Tps0]; iexact Tps0
      isplitl [Tpr0]; iexact Tpr0
      iexact L0
    isplitl [Tps1]; iexact Tps1
    isplitl [Tpr1]; iexact Tpr1
    iexact L1
  isplitl [Apr0 Cpr0 Tfs0 Tfr1 M1 Apr1 Cpr1 Tfs1 Tfr0 M0]
  · isplitl [Apr0 Cpr0 Tfs0 Tfr1 M1]
    · isplitl [Apr0]; iexact Apr0
      isplitl [Cpr0]; iexact Cpr0
      isplitl [Tfs0]; iexact Tfs0
      isplitl [Tfr1]; iapply (show tokD (F := F) (nb 1 c) (frS 1 s) ⊢ tokD (F := F) (nb (opp 0) c) (frS (opp 0) s) from .rfl) $$ Tfr1
      iapply (show anyR (F := F) (nb 1 c) (bset (qo (nb (opp 1) c)) s (opp 1)) ⊢ anyR (F := F) (nb (opp 0) c) (bset (qo (nb 0 c)) s 0) from .rfl) $$ M1
    isplitl [Apr1]; iexact Apr1
    isplitl [Cpr1]; iexact Cpr1
    isplitl [Tfs1]; iexact Tfs1
    isplitl [Tfr0]; iapply (show tokD (F := F) (nb 0 c) (frS 0 s) ⊢ tokD (F := F) (nb (opp 1) c) (frS (opp 1) s) from .rfl) $$ Tfr0
    iapply (show anyR (F := F) (nb 0 c) (bset (qo (nb (opp 0) c)) s (opp 0)) ⊢ anyR (F := F) (nb (opp 1) c) (bset (qo (nb 1 c)) s 1) from .rfl) $$ M0
  isplitl [Afr0 Cfr0 Afr1 Cfr1]
  · isplitl [Afr0 Cfr0]
    · isplitl [Afr0]; iexact Afr0
      iexact Cfr0
    isplitl [Afr1]; iexact Afr1
    iexact Cfr1
  isplitl [Azs]; iexact Azs
  isplitl [Aps0]; iexact Aps0
  isplitl [Aps1]; iexact Aps1
  isplitl [Afs0]; iexact Afs0
  iexact Afs1

/-- What a strip keeps while its sends are awaited. -/
def keep (c : Dev nD) (s : Fin 4) : sProp 𝕄 :=
  iprop((zeroD c (prS 0 s) ∗ zeroD c (prS 1 s))
    ∗ (rP c (zset (qo (nb 0 c)) s) fullShare.right (A.XB c) ∗ rP c (bset (qo (nb 0 c)) s 1) fullShare.left (A.XB c))
    ∗ (rP c (zset (qo (nb 1 c)) s) fullShare.right (A.XB c) ∗ rP c (bset (qo (nb 1 c)) s 0) fullShare.left (A.XB c)))

theorem turn_strip (c : Dev nD) (s : Fin 4) :
    iprop(atEnd (F := F) c s ∗ crD (F := F) c (zsS s) NZ ∗ (crD (F := F) c (psS 0 s) NZ ∗ crD (F := F) c (psS 1 s) NZ) ∗ (hopOut A c 0 s ∗ hopOut A c 1 s))
      ⊢ iprop(awayIn (F := F) c s ∗ endIn (F := F) c s ∗ keep A c s) := by
  unfold atEnd hopOut awayIn endIn keep
  iintro ⟨⟨Azs, Aps0, Aps1, Afs0, Afs1⟩, Czs, ⟨Cps0, Cps1⟩, ⟨⟨Z0, Cfs0, Ra, Rb⟩, ⟨Z1, Cfs1, Rc, Rd⟩⟩⟩
  isplitl [Azs Czs]
  · isplitl [Azs]; iexact Azs
    iexact Czs
  isplitl [Aps0 Aps1 Afs0 Afs1 Cps0 Cps1 Cfs0 Cfs1]
  · isplitl [Aps0 Cps0]
    · isplitl [Aps0]; iexact Aps0
      iexact Cps0
    isplitl [Aps1 Cps1]
    · isplitl [Aps1]; iexact Aps1
      iexact Cps1
    isplitl [Afs0 Cfs0]
    · isplitl [Afs0]; iexact Afs0
      iexact Cfs0
    isplitl [Afs1]; iexact Afs1
    iexact Cfs1
  isplitl [Z0 Z1]
  · isplitl [Z0]; iexact Z0
    iexact Z1
  isplitl [Ra Rb]
  · isplitl [Ra]; iexact Ra
    iexact Rb
  isplitl [Rc]; iexact Rc
  iexact Rd

theorem close_strip (c : Dev nD) (s : Fin 4) :
    iprop(zeroD (F := F) c (zrS s) ∗ keep A c s ∗ finOut A c s ∗ awayOut A c s ∗ endOut A c s)
      ⊢ iprop(famS (F := F) (zeroD c) s ∗ eP c (zset (qo c) s) fullShare.left (A.EB c)
        ∗ (rP c (zset (qo c) s) (psh 0) (A.XB c) ∗ rP c (zset (qo c) s) (psh 1) (A.XB c))
        ∗ (rP c (zset (qx c) s) fullShare.right (A.XB c) ∗ rP c (bset (qx c) s 0) fullShare.left (A.XB c) ∗ rP c (bset (qx c) s 1) fullShare.left (A.XB c))
        ∗ (rP c (zset (qy c) s) fullShare.right (A.XB c) ∗ rP c (bset (qy c) s 1) fullShare.left (A.XB c) ∗ rP c (bset (qy c) s 0) fullShare.left (A.XB c))
        ∗ rP c (zset (qd c) s) fullShare (A.XB c)) := by
  unfold keep finOut awayOut endOut famS
  iintro ⟨Zzr, ⟨⟨Zpr0, Zpr1⟩, ⟨Ra, Rb⟩, ⟨Rc, Rd⟩⟩, ⟨Zfr0, Zfr1, Rf⟩, ⟨Zzs, E⟩, ⟨⟨Zps0, P0⟩, ⟨Zps1, P1⟩, ⟨Zfs0, Q0⟩, ⟨Zfs1, Q1⟩⟩⟩
  isplitl [Zzr Zpr0 Zpr1 Zfr0 Zfr1 Zzs Zps0 Zps1 Zfs0 Zfs1]
  · isplitl [Zzs]; iexact Zzs
    isplitl [Zzr]; iexact Zzr
    isplitl [Zps0]; iexact Zps0
    isplitl [Zps1]; iexact Zps1
    isplitl [Zpr0]; iexact Zpr0
    isplitl [Zpr1]; iexact Zpr1
    isplitl [Zfs0]; iexact Zfs0
    isplitl [Zfs1]; iexact Zfs1
    isplitl [Zfr0]; iexact Zfr0
    iexact Zfr1
  isplitl [E]; iexact E
  isplitl [P0 P1]
  · isplitl [P0]; iexact P0
    iexact P1
  isplitl [Ra Rb Q0]
  · isplitl [Ra]; iexact Ra
    isplitl [Q0]; iexact Q0
    iexact Rb
  isplitl [Rc Rd Q1]
  · isplitl [Rc]; iexact Rc
    isplitl [Q1]; iexact Q1
    iexact Rd
  iexact Rf

/-! ## The body -/

theorem body_ok (c : Dev nD) (fo : FVec F S256x8192 .f32) (K : PUnit → sProp 𝕄) :
    iprop(ctx A ∗ res (F := F) c ∗ anyE (F := F) c Finset.univ ∗ anyR (F := F) c Finset.univ ∗ anyS (F := F) c Finset.univ ∗ ow c payL
        ∗ xP c (A.x c) ∗ wP c (A.w c) ∗ oP c fo
        ∗ ((ow c [] ∗ zeros (F := F) c ∗ anyE (F := F) c Finset.univ ∗ anyR (F := F) c Finset.univ ∗ anyS (F := F) c Finset.univ
            ∗ xP c (A.x c) ∗ wP c (A.w c) ∗ oP c (A.OUT c)) -∗ K ⟨⟩))
      ⊢ WP c (softB c) K := by
  have hdeal := mono4 (F := F) (deal_strip c)
  have hturn := mono4 (F := F) (turn_strip A c)
  have hclose := mono4 (F := F) (close_strip A c)
  simp only [bigSep_sep'] at hdeal hturn hclose
  unfold res zeros fam
  iintro ⟨#HC, ⟨Hbat, ⟨HA, HA0, HA1⟩, HT, ⟨HD, HD0, HD1⟩, Hbcr, HCr, HCs⟩, HE, HR, HS, Ho, Hx, Hw, HO, HK⟩
  unfold softB WP
  rw [wp_bind]
  iapply (start_ok A c _) $$ [-]
  isplitr; iexact HC
  isplitl [Ho]; iexact Ho
  isplitl [HR]; iexact HR
  isplitl [HS]; iexact HS
  isplitl [HT]; iexact HT
  isplitl [Hbcr]; iexact Hbcr
  isplitl [Hbat]; iexact Hbat
  isplitl [Hx]; iexact Hx
  iintro ⟨Ho, Hbz, Hx, S0, B0, B1, B2⟩
  ihave B0 := (show barPay (F := F) c 0 ⊢ iprop((bigSep Finset.univ fun s : Fin 4 => anyR (F := F) (zp c) (zset (qo c) s)) ∗ anyS (F := F) (zp c) (sset 1)) from .rfl) $$ B0
  icases B0 with ⟨B0, S1⟩
  ihave B1 := (show barPay (F := F) c 1 ⊢ (bigSep Finset.univ fun s : Fin 4 => lend (F := F) c 0 s) from .rfl) $$ B1
  ihave B2 := (show barPay (F := F) c 2 ⊢ (bigSep Finset.univ fun s : Fin 4 => lend (F := F) c 1 s) from .rfl) $$ B2
  ihave HE := (e_open c) $$ HE
  icases HE with ⟨HE, E123⟩
  ihave H := hdeal $$ [HA HD HCr B0 B1 B2 HE]
  · isplitl [HA]; iexact HA
    isplitl [HD]; iexact HD
    isplitl [HCr]; iexact HCr
    isplitl [B0]; iexact B0
    isplitl [B1]; iexact B1
    isplitl [B2]; iexact B2
    iexact HE
  icases H with ⟨Hown, Hpass, ⟨Hh0, Hh1⟩, Hfin, Hend⟩
  rw [wp_bind]
  iapply (comp_ok A c _) $$ [-]
  isplitr; iexact HC
  isplitl [Hw]; iexact Hw
  isplitl [Ho]; iexact Ho
  isplitl [Hown]; iexact Hown
  isplitl [E123]; iexact E123
  iintro ⟨Hw, Ho, Hown, ⟨E1, E2, E3⟩⟩
  rw [wp_bind]
  unfold statL
  iapply (stat_ok A c _ (dev_stat c) _ _) $$ [-]
  isplitr; iexact HC
  isplitl [S0]; iexact S0
  isplitl [S1]; iexact S1
  isplitl [Ho]; iexact Ho
  isplitl [HD0]; iapply (show tokOn (F := F) c (stS 0) ⊢ tokD (F := F) c (stS 0) from .rfl) $$ HD0
  isplitl [HD1]; iapply (show tokOn (F := F) c (stS 1) ⊢ tokD (F := F) (zp c) (stS 1) from .rfl) $$ HD1
  iintro ⟨HC0, Ho⟩
  rw [wp_bind]
  iapply (mid_ok A c _) $$ [-]
  isplitr; iexact HC
  isplitl [Ho]; iexact Ho
  isplitl [Hpass]; iexact Hpass
  isplitl [HCs HA1]
  · isplitl [HCs]; iexact HCs
    iexact HA1
  iintro ⟨Ho, Hpass, ⟨Zst1, Sst1⟩⟩
  ihave Hown := (show (bigSep Finset.univ fun s : Fin 4 => ownOut A c s : sProp 𝕄) ⊢ iprop((bigSep Finset.univ fun s : Fin 4 => crD (F := F) c (zsS s) NZ) ∗ eP c (aset (qj c 0)) fullShare.right (A.EB c)) from
    Entails.of_eq (by rw [qj_zero, a_split (adds_e c fullShare.right (A.EB c)), ← bigSep_sep']; rfl)) $$ Hown
  icases Hown with ⟨Czs, E0⟩
  ihave Hpass := (show (bigSep Finset.univ fun s : Fin 4 => passOut A c s : sProp 𝕄) ⊢ iprop((bigSep Finset.univ fun s : Fin 4 => zeroD (F := F) c (zrS s))
      ∗ ((bigSep Finset.univ fun s : Fin 4 => crD (F := F) c (psS 0 s) NZ) ∗ (bigSep Finset.univ fun s : Fin 4 => crD (F := F) c (psS 1 s) NZ)) ∗ rP c (aset (qo c)) fullShare.right.right (A.XB c)) from by
    rw [a_split (adds_r c fullShare.right.right (A.XB c)), show (fun s : Fin 4 => passOut A c s) = fun s => iprop(zeroD (F := F) c (zrS s) ∗ crD (F := F) c (psS 0 s) NZ ∗ crD (F := F) c (psS 1 s) NZ ∗ rP c (zset (qo c) s) fullShare.right.right (A.XB c)) from rfl,
      bigSep_sep', bigSep_sep', bigSep_sep']
    iintro ⟨Ha, Hb, Hc, Hd⟩
    isplitl [Ha]; iexact Ha
    isplitl [Hb Hc]
    · isplitl [Hb]; iexact Hb
      iexact Hc
    iexact Hd) $$ Hpass
  icases Hpass with ⟨Zzr, Cps, Rq⟩
  rw [wp_bind]
  ihave HO := (partO_start c (A.OUT c) fo) $$ HO
  iapply (tile_ok A c fullShare.right fullShare.right.right _) $$ [-]
  isplitl [E0]; iexact E0
  isplitl [E1]; iexact E1
  isplitl [E2]; iexact E2
  isplitl [E3]; iexact E3
  isplitl [Rq]; iexact Rq
  isplitl [HO]; iexact HO
  iintro ⟨E0, E1, E2, E3, Rq, HO⟩
  rw [wp_bind]
  iapply (hop_ok A c _ _) $$ [-]
  isplitr; iexact HC
  isplitl [Ho]; iexact Ho
  isplitl [Hh0 Hh1]
  · iapply (show iprop((bigSep Finset.univ fun s : Fin 4 => hopIn (F := F) c 0 s) ∗ (bigSep Finset.univ fun s : Fin 4 => hopIn (F := F) c 1 s))
      ⊢ (bigSep Finset.univ fun s : Fin 4 => iprop(hopIn (F := F) c 0 s ∗ hopIn (F := F) c 1 s)) from Entails.of_eq (bigSep_sep' _ _ _).symm)
    isplitl [Hh0]; iexact Hh0
    iexact Hh1
  isplitl [HO]; iexact HO
  iintro ⟨Ho, Hh, HO⟩
  ihave Hh := (show (bigSep Finset.univ fun s : Fin 4 => iprop(hopOut A c 0 s ∗ hopOut A c 1 s) : sProp 𝕄)
      ⊢ iprop((bigSep Finset.univ fun s : Fin 4 => hopOut A c 0 s) ∗ (bigSep Finset.univ fun s : Fin 4 => hopOut A c 1 s)) from Entails.of_eq (bigSep_sep' _ _ _)) $$ Hh
  ihave H := hturn $$ [Hend Czs Cps Hh]
  · isplitl [Hend]; iexact Hend
    isplitl [Czs]; iexact Czs
    isplitl [Cps]; iexact Cps
    iexact Hh
  icases H with ⟨Haway, Hend, Hkeep⟩
  iapply (last_ok A c K) $$ [-]
  isplitr; iexact HC
  isplitl [Ho]; iexact Ho
  isplitl [Hfin]; iexact Hfin
  isplitl [Haway]; iexact Haway
  isplitl [HA0 HC0]
  · isplitl [HA0]; iexact HA0
    iexact HC0
  isplitl [Hend]; iexact Hend
  isplitl [HO]; iexact HO
  iintro ⟨Ho, Hfin, Haway, ⟨Zst0, Sst0⟩, Hend, HO⟩
  ihave H := hclose $$ [Zzr Hkeep Hfin Haway Hend]
  · isplitl [Zzr]; iexact Zzr
    isplitl [Hkeep]; iexact Hkeep
    isplitl [Hfin]; iexact Hfin
    isplitl [Haway]; iexact Haway
    iexact Hend
  icases H with ⟨HZ, HE, ⟨Ra, Rb⟩, ⟨Rc, Rd, Re⟩, ⟨Rf, Rg, Rh⟩, Ri⟩
  iapply HK
  isplitl [Ho]; iexact Ho
  isplitl [Hbz HZ Zst0 Zst1]
  · isplitl [Hbz]; iexact Hbz
    isplitl [HZ]; iexact HZ
    isplitl [Zst0]; iexact Zst0
    iexact Zst1
  isplitl [HE E0 E1 E2 E3]
  · iapply (e_shut c (A.EB c))
    isplitl [HE]; iexact HE
    isplitl [E0]; iexact E0
    isplitl [E1]; iexact E1
    isplitl [E2]; iexact E2
    iexact E3
  isplitl [Rq Ra Rb Rc Rd Re Rf Rg Rh Ri]
  · have hr := r_shut c (A.XB c)
    simp only [bigSep_sep'] at hr
    iapply hr
    isplitl [Rq]; iexact Rq
    isplitl [Ra Rb]
    · isplitl [Ra]; iexact Ra
      iexact Rb
    isplitl [Rc Rd Re]
    · isplitl [Rc]; iexact Rc
      isplitl [Rd]; iexact Rd
      iexact Re
    isplitl [Rf Rg Rh]
    · isplitl [Rf]; iexact Rf
      isplitl [Rg]; iexact Rg
      iexact Rh
    iexact Ri
  isplitl [Sst0 Sst1]
  · iapply (s_shut c (A.SB c) (A.SB (zp c)))
    isplitl [Sst0]; iexact Sst0
    iexact Sst1
  isplitl [Hx]; iexact Hx
  isplitl [Hw]; iexact Hw
  iexact HO

end Cert.KernelIdeal.Soft
-- ==== Proof.Ghost.lean ====
/- The ghost state of the exchange: what the launch mints, how it is dealt, and what each device is owed. -/
module

public import proofs.«01_k».proof.Proof.Body

@[expose] public section

set_option maxRecDepth 16384

noncomputable section

namespace Cert.KernelIdeal.Soft

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ UU ℕ

variable (A : Args F)

/-! ## Families listed -/

/-- The own DMA semaphores, the launch's first three skipped. -/
abbrev osem : Fin 42 → SemLoc sig := fun k => .dma ⟨k.val + 3, by have := k.isLt; show _ < 45; omega⟩

theorem sep_assoc_eq (P Q R : sProp 𝕄) : iprop((P ∗ Q) ∗ R) = iprop(P ∗ Q ∗ R) :=
  Entails.antisymm (show iprop((P ∗ Q) ∗ R) ⊢ iprop(P ∗ Q ∗ R) from by iintro ⟨⟨H, H1⟩, H2⟩; isplitl [H]; iexact H; isplitl [H1] <;> iassumption)
    (show iprop(P ∗ Q ∗ R) ⊢ iprop((P ∗ Q) ∗ R) from by iintro ⟨H, H1, H2⟩; isplitr [H2]; (isplitl [H] <;> iassumption); iexact H2)

/-- Over the kernel's own semaphores. -/
theorem fam_own (Φ : DmaSem sig → sProp 𝕄) (Ψ : SemLoc sig → sProp 𝕄) (h : ∀ q, Ψ (.dma q) = Φ q) :
    (bigSepL ([0, 4, 10, 14, 18, 22, 26, 30, 34, 38, 1, 5, 11, 15, 19, 23, 27, 31, 35, 39, 2, 6, 12, 16, 20, 24, 28, 32, 36, 40,
        3, 7, 13, 17, 21, 25, 29, 33, 37, 41, 8, 9] : List (Fin 42)) (fun k => Ψ (osem k)) : sProp 𝕄) = fam Φ := by
  simp only [osem, h]
  unfold fam famS
  rw [four]
  simp only [sep_assoc_eq]
  rfl

/-- Over the cells of a device: the barrier's first. -/
theorem fam_cells (Ψ : SemLoc sig → sProp 𝕄) :
    (bigSep Finset.univ fun k : Fin 43 => Ψ (csem k)) = iprop(Ψ (.reg barS) ∗ fam (F := F) fun q => Ψ (.dma q)) := by
  rw [bigSep_univ_eq_bigSepL [0, 1, 5, 11, 15, 19, 23, 27, 31, 35, 39, 2, 6, 12, 16, 20, 24, 28, 32, 36, 40, 3, 7, 13, 17, 21, 25, 29, 33, 37, 41,
        4, 8, 14, 18, 22, 26, 30, 34, 38, 42, 9, 10] (by decide) (by decide)]
  unfold fam famS
  rw [four]
  simp only [sep_assoc_eq]
  rfl

/-! ## What is minted -/

theorem csem_injective : Function.Injective csem := by decide +kernel
theorem kcell_injective : Function.Injective (kcell : Dev nD × Fin 43 → GSem nD τ sig) := by
  rintro ⟨c, k⟩ ⟨c', k'⟩ h
  have h1 : c = c' := congrArg (fun g : GSem nD τ sig => g.1.1) h
  subst h1
  have h2 : k = k' := csem_injective (congrArg Prod.snd h)
  rw [h2]
def ringCells : Finset (GSem nD τ sig) := Finset.univ.map ⟨kcell, kcell_injective⟩

/-- The duty tokens of the cells: three of a barrier's, one of each DMA semaphore's. -/
def tokSem (j : Fin 45) : SemLoc sig × Fin 3 := if h : j.val < 3 then (.reg barS, ⟨j.val, h⟩) else (.dma j, 0)
theorem tokSem_injective : Function.Injective tokSem := by decide +kernel
def tokOf (cj : Dev nD × Fin 45) : GSem nD τ sig × ℕ × Fin 3 := (((cj.1 : Thread nD τ), (tokSem cj.2).1), 0, (tokSem cj.2).2)
theorem tokOf_injective : Function.Injective tokOf := by
  rintro ⟨c, j⟩ ⟨c', j'⟩ h
  have h1 : c = c' := congrArg (fun x : GSem nD τ sig × ℕ × Fin 3 => x.1.1.1) h
  subst h1
  rw [tokSem_injective (Prod.ext (congrArg (fun x : GSem nD τ sig × ℕ × Fin 3 => x.1.2) h) (congrArg (fun x : GSem nD τ sig × ℕ × Fin 3 => x.2.2) h) : tokSem j = tokSem j')]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The token at a place of the list. -/
def tokAt (cj : Dev nD × Fin 45) : sProp 𝕄 := dutyTok ER (tokOf cj).1 (tokOf cj).2.1 (tokOf cj).2.2

/-- What the launch element deals device `c`. -/
def G (c : Dev nD) : sProp 𝕄 :=
  iprop((bigSep Finset.univ fun k : Fin 43 => roundState ER (Rd A) (kcell (c, k)) 0)
    ∗ (bigSep Finset.univ fun k : Fin 43 => iprop(atPos ER (kcell (c, k)) 0 ∅ 0 ∗ reached ER (kcell (c, k)) 0))
    ∗ bigSep Finset.univ fun j : Fin 45 => tokAt (F := F) (c, j))

theorem fund_ring : BI.own (ER (initOf ringCells ringToks)) ⊢ (|==> bigSep Finset.univ (G A) : sProp 𝕄) := by
  have hX (Φ : GSem nD τ sig → sProp 𝕄) : bigSep ringCells Φ = bigSep Finset.univ fun c : Dev nD => bigSep Finset.univ fun k : Fin 43 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j : Fin 45 => tokAt (F := F) (c, j) := by
    unfold ringToks; rw [bigSep_map, bigSep_univ_prod]; rfl
  iintro HX
  imod (Rounds.fund ER (Rd A) ringCells ringToks) $$ HX with ⟨Hst, Hr, Hat, Htok⟩
  imodintro
  ihave Hst' := (show _ ⊢ _ from Entails.of_eq (hX fun g => roundState ER (Rd A) g 0)) $$ Hst
  ihave Hat' := (show _ ⊢ _ from Entails.of_eq (hX fun g => atPos ER g 0 ∅ 0)) $$ Hat
  ihave Hr' := (show _ ⊢ _ from Entails.of_eq (hX fun g => reached ER g 0)) $$ Hr
  ihave Htok' := (show _ ⊢ _ from Entails.of_eq hT) $$ Htok
  unfold G; simp only [bigSep_sep']
  isplitl [Hst']; · iexact Hst'
  isplitl [Hat' Hr']
  · isplitl [Hat'] <;> iassumption
  iexact Htok'

/-! ## How it is dealt -/

theorem ownSems0_eq (c : Dev nD) : (Pipeline.ownSems0 (Ix := Unit) (Name := ℕ) (U := UU) (Lvl := ℕ) (Val := Elt F) (τ := τ) osem c : sProp 𝕄)
    = fam (F := F) (zeroD c) := by
  rw [Pipeline.ownSems0_eq_of_list c osem [0, 4, 10, 14, 18, 22, 26, 30, 34, 38, 1, 5, 11, 15, 19, 23, 27, 31, 35, 39, 2, 6, 12, 16, 20, 24, 28, 32, 36, 40,
        3, 7, 13, 17, 21, 25, 29, 33, 37, 41, 8, 9] (by decide) (by decide)]
  exact fam_own _ (fun s => semVal ((c : Thread nD τ), s) 0) fun _ => rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 43 => semVal (kcell (c, k)) 0 : sProp 𝕄) := by
  rw [ownSems0_eq, unscopedSems0_eq, fam_cells fun s => semVal ((c : Thread nD τ), s) 0]
  iintro ⟨HO, HB⟩
  isplitl [HB]; · iexact HB
  iexact HO

theorem alloc_all (c : Dev nD) :
    iprop((bigSep Finset.univ fun k : Fin 43 => semVal (kcell (c, k)) 0) ∗ bigSep Finset.univ fun k : Fin 43 => roundState ER (Rd A) (kcell (c, k)) 0)
      ⊢ (|={Set.univ}=> bigSep Finset.univ fun k : Fin 43 => iprop(∃ κ : ℕ, cellInv ER (Rd A) κ (kcell (c, k))) : sProp 𝕄) := by
  rw [← bigSep_sep']
  exact (bigSep_mono fun k _ => (Rounds.body_intro ER (Rd A) (kcell (c, k))).trans inv_alloc).trans (bigSep_fupd _ _)

/-- A device's cells opened for sharing, its positions, its cells' tokens. -/
def opened (c : Dev nD) : sProp 𝕄 :=
  iprop((bigSep Finset.univ fun k : Fin 43 => iprop(∃ κ : ℕ, cellInv ER (Rd A) κ (kcell (c, k))))
    ∗ (bigSep Finset.univ fun k : Fin 43 => iprop(atPos ER (kcell (c, k)) 0 ∅ 0 ∗ reached ER (kcell (c, k)) 0))
    ∗ bigSep Finset.univ fun j : Fin 45 => tokAt (F := F) (c, j))

theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> opened A c := by
  unfold G opened
  iintro ⟨Hos, Hus, Hst, Hat, Htok⟩
  ihave Hv := (sems0_eq (F := F) c) $$ [Hos Hus]
  · isplitl [Hos] <;> iassumption
  imod (alloc_all A c) $$ [Hv Hst] with Hinv
  · isplitl [Hv] <;> iassumption
  imodintro
  isplitl [Hinv]; · iexact Hinv
  isplitl [Hat]; · iexact Hat
  iexact Htok

/-- The cells' records, all of them. -/
def shared : sProp 𝕄 :=
  iprop((bigSep Finset.univ fun ck : Dev nD × Fin 43 => iprop(∃ κ : ℕ, cellInv ER (Rd A) κ (kcell ck)))
    ∗ bigSep Finset.univ fun ck : Dev nD × Fin 43 => reached ER (kcell ck) 0)
instance shared_persistent : BI.Persistent (shared A) := by unfold shared; infer_instance

/-- Who pays the duty at a place of the list, an involution. -/
def payer (cj : Dev nD × Fin 45) : Dev nD × Fin 45 := (if h : cj.2.val < 3 then nbar ⟨cj.2.val, h⟩ cj.1 else kpd (kd cj.2) cj.1, cj.2)
theorem payer_invol : Function.Involutive payer := by
  rintro ⟨c, j⟩
  unfold payer
  by_cases h : j.val < 3
  · simp only [dif_pos h, nbar_nbar]
  · simp only [dif_neg h, kpd_kpd]

/-- The tokens of the duties device `c` pays. -/
def payToks (c : Dev nD) : sProp 𝕄 :=
  iprop((dutyTok ER (barCell (nbar 0 c)) 0 0 ∗ dutyTok ER (barCell (nbar 1 c)) 0 1 ∗ dutyTok ER (barCell (nbar 2 c)) 0 2) ∗ fam (F := F) (tokOn c))

theorem tokAt_payer (c : Dev nD) (j : Fin 45) : tokAt (F := F) (payer (c, j))
    = if h : j.val < 3 then dutyTok ER (barCell (nbar ⟨j.val, h⟩ c)) 0 ⟨j.val, h⟩ else tokOn (F := F) c j := by
  unfold tokAt tokOf payer tokSem
  by_cases h : j.val < 3
  · simp only [dif_pos h]
  · simp only [dif_neg h]

theorem payToks_eq (c : Dev nD) : (bigSep Finset.univ fun j : Fin 45 => tokAt (F := F) (payer (c, j))) = payToks (F := F) c := by
  simp only [tokAt_payer]
  rw [bigSep_univ_eq_bigSepL [0, 1, 2, 3, 7, 13, 17, 21, 25, 29, 33, 37, 41, 4, 8, 14, 18, 22, 26, 30, 34, 38, 42, 5, 9, 15, 19, 23, 27, 31, 35, 39, 43,
        6, 10, 16, 20, 24, 28, 32, 36, 40, 44, 11, 12] (by decide) (by decide)]
  unfold payToks fam famS
  rw [four]
  simp only [sep_assoc_eq]
  rfl

theorem toks_around : (bigSep Finset.univ fun c : Dev nD => bigSep Finset.univ fun j : Fin 45 => tokAt (F := F) (c, j)) = bigSep Finset.univ fun c : Dev nD => payToks (F := F) c := by
  rw [← bigSep_univ_prod (fun cj : Dev nD × Fin 45 => tokAt (F := F) cj), bigSep_univ_equiv (payer_invol.toPerm) fun cj => tokAt (F := F) cj, bigSep_univ_prod]
  exact bigSep_congr fun c _ => payToks_eq c

/-- What stays with device `c`. -/
def linear (c : Dev nD) : sProp 𝕄 :=
  iprop((bigSep Finset.univ fun k : Fin 43 => atPos ER (kcell (c, k)) 0 ∅ 0) ∗ payToks (F := F) c)
/-- What device `c` starts from. -/
def G' (c : Dev nD) : sProp 𝕄 := iprop(shared A ∗ linear (F := F) c)

theorem with_persistent {R : sProp 𝕄} [BI.Persistent R] {Φ Ψ : Dev nD → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

theorem regroup : (bigSep Finset.univ fun c : Dev nD => opened A c : sProp 𝕄) ⊢ bigSep Finset.univ (G' A) := by
  unfold opened
  rw [bigSep_sep', bigSep_sep', ← bigSep_univ_prod (fun ck : Dev nD × Fin 43 => iprop(∃ κ : ℕ, cellInv ER (Rd A) κ (kcell ck))),
    bigSep_congr (s := Finset.univ) (fun (c : Dev nD) _ => bigSep_sep' Finset.univ (fun k : Fin 43 => (atPos ER (kcell (c, k)) 0 ∅ 0 : sProp 𝕄)) (fun k => reached ER (kcell (c, k)) 0)),
    bigSep_sep', ← bigSep_univ_prod (fun ck : Dev nD × Fin 43 => (reached ER (kcell ck) 0 : sProp 𝕄)), toks_around]
  refine BIBase.Entails.trans ?_ (with_persistent (R := shared A) (Φ := linear (F := F)) fun c => .rfl)
  unfold linear shared
  rw [bigSep_sep']
  iintro ⟨HI, ⟨Hat, HR⟩, Htok⟩
  isplitl [HI HR]
  · isplitl [HI] <;> iassumption
  isplitl [Hat] <;> iassumption

/-- The semaphores of every device opened at once. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## What each device is owed -/

abbrev O₀ (c : Dev nD) : CellTallies nD τ sig Unit := owedL c payL

theorem dcell_inj {a b : Dev nD} {q q' : DmaSem sig} (h : dcell a q = dcell b q') : a = b ∧ q = q' := by
  have h1 : a = b := congrArg (fun g : GSem nD τ sig => g.1.1) h
  have h2 : SemLoc.dma q = SemLoc.dma q' := congrArg (fun g : GSem nD τ sig => g.2) h
  exact ⟨h1, by cases h2; rfl⟩

theorem tl_dma (d c : Dev nD) (q : DmaSem sig) (t : Tk) : tl d t (dcell c q) () = if t = .q q ∧ d = kpd (kd q) c then kamt (kd q) else 0 := by
  unfold tl
  rw [tallyAt_apply]
  refine ite_congr (propext ⟨fun ⟨h, _⟩ => ?_, fun ⟨h, h'⟩ => ?_⟩) (fun h => ?_) fun _ => rfl
  · cases t with
    | b e => exact absurd (congrArg (fun g : GSem nD τ sig => g.2) h) (by intro h'; cases h')
    | q s =>
      obtain ⟨h1, rfl⟩ := dcell_inj h
      exact ⟨rfl, by rw [h1, kpd_kpd]⟩
  · subst h h'
    exact ⟨by show dcell c q = dcell _ q; rw [kpd_kpd], rfl⟩
  · obtain ⟨rfl, -⟩ := h; rfl

theorem owed_dma (d c : Dev nD) (q : DmaSem sig) (l : List Tk) : owedL d l (dcell c q) () = if d = kpd (kd q) c then l.count (.q q) * kamt (kd q) else 0 := by
  induction l with
  | nil => show 0 = _; simp
  | cons t l ih =>
    show owedL d l (dcell c q) () + tl d t (dcell c q) () = _
    rw [ih, tl_dma]
    by_cases hd : d = kpd (kd q) c
    · by_cases ht : t = .q q
      · rw [if_pos hd, if_pos hd, if_pos ⟨ht, hd⟩, ht, List.count_cons_self, Nat.add_mul, Nat.one_mul]
      · rw [if_pos hd, if_pos hd, if_neg (fun h => ht h.1), List.count_cons_of_ne (fun h => ht h), Nat.add_zero]
    · rw [if_neg hd, if_neg hd, if_neg fun h => hd h.2]

theorem launch_dma (c : Dev nD) (q : DmaSem sig) (h : payL.count (.q q) = 1) :
    tallyOn (dcell c q) (launchCredit (Pipeline.owing O₀) 0 (dcell c q)) = (tallyAt (dcell c q) () (kamt (kd q)) : CellTallies nD τ sig Unit) := by
  unfold tallyAt; refine congrArg _ (Finsupp.ext fun u => ?_); cases u
  rw [Pipeline.launchCredit_owing, Finsupp.single_eq_same, Finset.sum_congr rfl fun d _ => owed_dma d c q payL, h, Nat.one_mul,
    Finset.sum_ite_eq' Finset.univ (kpd (kd q) c) fun _ => kamt (kd q), if_pos (Finset.mem_univ _)]

theorem tl_bar (d c : Dev nD) (t : Tk) : tl d t (barCell c) () = match t with | .b e => if d = nbar e c then 1 else 0 | .q _ => 0 := by
  unfold tl
  rw [tallyAt_apply]
  cases t with
  | b e =>
    refine ite_congr (propext ⟨fun ⟨h, _⟩ => ?_, fun h => ?_⟩) (fun _ => rfl) fun _ => rfl
    · have h1 : c = nbar e d := congrArg (fun g : GSem nD τ sig => g.1.1) h
      rw [h1, nbar_nbar]
    · subst h; exact ⟨by show barCell c = barCell _; rw [nbar_nbar], rfl⟩
  | q s => exact if_neg fun h => absurd (congrArg (fun g : GSem nD τ sig => g.2) h.1) (by intro h'; cases h')

theorem owed_bar (d c : Dev nD) (l : List Tk) (h : ∀ e, Tk.b e ∉ l) : owedL d l (barCell c) () = 0 := by
  induction l with
  | nil => rfl
  | cons t l ih =>
    show owedL d l (barCell c) () + tl d t (barCell c) () = _
    rw [ih fun e he => h e (List.mem_cons_of_mem _ he), tl_bar]
    cases t with
    | b e => exact absurd List.mem_cons_self (h e)
    | q s => rfl

theorem ownL_no_b : ∀ e, Tk.b e ∉ ownL := by decide

theorem owed_bar3 (d c : Dev nD) : O₀ d (barCell c) () = ((if d = nbar 2 c then 1 else 0) + (if d = nbar 1 c then 1 else 0)) + if d = nbar 0 c then 1 else 0 := by
  show ((owedL d ownL (barCell c) () + tl d (.b 2) (barCell c) ()) + tl d (.b 1) (barCell c) ()) + tl d (.b 0) (barCell c) () = _
  rw [owed_bar d c ownL ownL_no_b, tl_bar, tl_bar, tl_bar, Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar3 d c, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]

theorem once_zr : ∀ s : Fin 4, payL.count (.q (zrS s)) = 1 := by decide +kernel
theorem once_pr : ∀ (r : Fin 2) (s : Fin 4), payL.count (.q (prS r s)) = 1 := by decide +kernel
theorem once_fr : ∀ (r : Fin 2) (s : Fin 4), payL.count (.q (frS r s)) = 1 := by decide +kernel
theorem once_st : payL.count (.q (stS 1)) = 1 := by decide +kernel

/-- The launch credit of one cell. -/
def lcr (c : Dev nD) (s : SemLoc sig) : sProp 𝕄 := cred (tallyOn ((c : Thread nD τ), s) (launchCredit (Pipeline.owing O₀) 0 ((c : Thread nD τ), s)))

theorem lcr_dma (c : Dev nD) (q : DmaSem sig) (h : payL.count (.q q) = 1) : lcr c (.dma q) ⊢ crD (F := F) c q (kamt (kd q)) := by
  unfold lcr; rw [launch_dma c q h]

theorem lcr_strip (c : Dev nD) (s : Fin 4) : famS (F := F) (fun q => lcr c (.dma q)) s ⊢ crS (F := F) c s := by
  unfold famS crS
  have e1 := lcr_dma (F := F) c _ (once_zr s); rw [kd_zr] at e1
  have e2 := lcr_dma (F := F) c _ (once_pr 0 s); rw [kd_pr] at e2
  have e3 := lcr_dma (F := F) c _ (once_pr 1 s); rw [kd_pr] at e3
  have e4 := lcr_dma (F := F) c _ (once_fr 0 s); rw [kd_fr] at e4
  have e5 := lcr_dma (F := F) c _ (once_fr 1 s); rw [kd_fr] at e5
  iintro ⟨-, H1, -, -, H2, H3, -, -, H4, H5⟩
  isplitl [H1]; · iapply e1 $$ H1
  isplitl [H2]; · iapply e2 $$ H2
  isplitl [H3]; · iapply e3 $$ H3
  isplitl [H4]; · iapply e4 $$ H4
  iapply e5 $$ H5

theorem creds (c : Dev nD) :
    (Pipeline.launchCred O₀ c : sProp 𝕄) ⊢ iprop(cred (tallyAt (barCell c) () 3) ∗ (bigSep Finset.univ fun s : Fin 4 => crS (F := F) c s) ∗ crD c (stS 1) NS) := by
  have h1 : (Pipeline.launchCred O₀ c : sProp 𝕄) ⊢ bigSep Finset.univ fun k : Fin 43 => lcr (F := F) c (csem k) := by
    unfold Pipeline.launchCred
    refine BIBase.Entails.trans (bigSep_subset (Finset.subset_univ (Finset.univ.map ⟨csem, csem_injective⟩))) ?_
    rw [bigSep_map]; exact .rfl
  refine h1.trans ?_
  rw [fam_cells (fun s => lcr (F := F) c s)]
  have e0 : lcr (F := F) c (.reg barS) ⊢ cred (tallyAt (barCell c) () 3) := by unfold lcr; rw [launch_bar]
  have e1 := lcr_dma (F := F) c _ once_st
  have e2 := mono4 (lcr_strip (F := F) c)
  unfold fam
  iintro ⟨HB, HS, -, HT⟩
  isplitl [HB]; · iapply e0 $$ HB
  isplitl [HS]; · iapply e2 $$ HS
  iapply e1 $$ HT

end Cert.KernelIdeal.Soft

end
-- ==== Proof.Launch.lean ====
/- The kernel launched on every device: the run of the whole program. -/
module

public import proofs.«01_k».proof.Proof.Ghost
public import proofs.«01_k».proof.Proof.Gen.KernelIdeal.Frame
public import Idealize.ShloMosaic.Lib.Pipeline.CollectiveSegs

@[expose] public section

set_option maxRecDepth 16384

noncomputable section

namespace Cert.KernelIdeal.Soft

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The start: any memory, every counter at zero. -/
def s₀ : MemSt nD τ sig (Elt F) := ⟨m, fun _ => 0, ρ⟩

/-- What every device's two windows hold. -/
def argsOf : Args F where
  x c := (win0_0.blk (0 : Fin 1)).view.read (Elt F) (m ((c : Thread nD τ).loc main_arg0))
  w c := (win0_1.blk (0 : Fin 1)).view.read (Elt F) (m ((c : Thread nD τ).loc main_arg1))

/-- What device `c`'s body starts from beside its buffers, -/
def start (c : Dev nD) : sProp 𝕄 := iprop(ctx (argsOf m) ∗ res (F := F) c)
def Φ₀ (c : Dev nD) : sProp 𝕄 := iprop(start m c ∗ anyE (F := F) c Finset.univ ∗ anyR (F := F) c Finset.univ ∗ anyS (F := F) c Finset.univ)
/-- and what it leaves. -/
def Φ₁ (c : Dev nD) : sProp 𝕄 := iprop(zeros (F := F) c ∗ anyE (F := F) c Finset.univ ∗ anyR (F := F) c Finset.univ ∗ anyS (F := F) c Finset.univ)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (argsOf m).x c
    | ⟨1, _⟩ => (argsOf m).w c
    | ⟨2, _⟩ => (argsOf m).OUT c
  Φ t := match t with | ⟨0, _⟩ => Φ₀ m c | ⟨_ + 1, _⟩ => Φ₁ (F := F) c
  q _ := fullShare
  owed t := match t with | ⟨0, _⟩ => O₀ c | ⟨_ + 1, _⟩ => 0

/-! ## The body -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 ((argsOf m).x c) ∗ stg c cc0_stg1_0 ((argsOf m).w c)
    ∗ stg c cc0_stg2_0 ((argsOf m).OUT c))

theorem before_x (c : Dev nD) (d) : (dats m ρ 0 c).before (0 : Fin 3) t0_0 d = (argsOf m).x c := by
  unfold Dat.before; rw [if_pos (fetch0_0 t0_0)]; rfl
theorem before_w (c : Dev nD) (d) : (dats m ρ 0 c).before (1 : Fin 3) t0_0 d = (argsOf m).w c := by
  unfold Dat.before; rw [if_pos (fetch0_1 t0_0)]; rfl

theorem open_x (c : Dev nD) : iprop(∃ d, stg c cc0_stg0_0 ((dats m ρ 0 c).before (0 : Fin 3) t0_0 d)) ⊢ xP c ((argsOf m).x c) := by
  simp only [before_x]
  iintro ⟨%d, %f, %h, H⟩
  subst h
  iexact H
theorem open_w (c : Dev nD) : iprop(∃ d, stg c cc0_stg1_0 ((dats m ρ 0 c).before (1 : Fin 3) t0_0 d)) ⊢ wP c ((argsOf m).w c) := by
  simp only [before_w]
  iintro ⟨%d, %f, %h, H⟩
  subst h
  iexact H

theorem ow_open (c : Dev nD) : ((dats m ρ 0 c).owesAt () t0_0.castSucc : sProp 𝕄) ⊢ ow c payL := by
  unfold Dat.owesAt Pipeline.owesWithin ow
  rw [show (dats m ρ 0 c).owed t0_0.castSucc = owedL c payL from rfl]
  iintro ⟨%W, %hW, HO⟩
  iexists W; iexact HO
theorem ow_close (c : Dev nD) : ow c [] ⊢ ((dats m ρ 0 c).owesAt () t0_0.succ : sProp 𝕄) := by
  unfold Dat.owesAt Pipeline.owesWithin ow
  rw [show (dats m ρ 0 c).owed t0_0.succ = owedL c [] from rfl]
  iintro ⟨%W, HO⟩
  iexists W
  isplitr; · ipureintro; exact fun _ _ => Or.inl trivial
  iexact HO

theorem stg_of (c : Dev nD) (b : Ref sig .tc) (X : b.ty.Contents (Elt F)) : iprop(((c : Thread nD τ).loc b) ↦{fullShare} X) ⊢ stg c b X := by
  iintro H
  iexists X
  isplitr; · (ipureintro; rfl)
  iexact H

theorem wp_id (c : Dev nD) (Q : PUnit → sProp 𝕄) : WP c (softB (F := F) c) Q
    ⊢ wp frame (wpE (defs₀ (F := F)) 𝒱₀ (c : Thread nD τ) none) Set.univ (Prog.lift .deviceId >>= softB (F := F)) Q := by
  rw [wp_bind]
  simp only [Prog.lift, wp_deviceId, wp_ret]
  unfold WP
  exact fupd_intro

theorem sound_body (c : Dev nD) : bodyPre m ρ c ⊢ wp frame (wpE (defs₀ (F := F)) 𝒱₀ (c : Thread nD τ) none) Set.univ
    (cc0_body xM (Memref.isWhole_whole _) wM (Memref.isWhole_whole _) oM (Memref.isWhole_whole _) (Memref.whole cc0_scratch0) (Memref.isWhole_whole _)
      (Memref.whole cc0_scratch1) (Memref.isWhole_whole _) (Memref.whole cc0_scratch2) (Memref.isWhole_whole _) cc0_scratch3 cc0_scratch4 cc0_scratch5
      cc0_scratch6 cc0_scratch7 cc0_scratch8 cc0_scratch9) (fun _ => bodyPost m ρ c) := by
  rw [body_eq]
  refine BIBase.Entails.trans ?_ (wp_id c _)
  unfold bodyPre Φ₀ start
  iintro ⟨⟨⟨Hctx, Hres⟩, HE, HR, HS⟩, Ho, Hx, Hw, ⟨%d, %fo, %ho, Hout⟩⟩
  iapply (body_ok (argsOf m) c fo _) $$ [-]
  isplitl [Hctx]; iexact Hctx
  isplitl [Hres]; iexact Hres
  isplitl [HE]; iexact HE
  isplitl [HR]; iexact HR
  isplitl [HS]; iexact HS
  isplitl [Ho]; iapply (ow_open m ρ c) $$ Ho
  isplitl [Hx]; iapply (open_x m ρ c) $$ Hx
  isplitl [Hw]; iapply (open_w m ρ c) $$ Hw
  isplitl [Hout]; iexact Hout
  iintro ⟨Ho, Hz, HE, HR, HS, Hx, Hw, Hout⟩
  unfold bodyPost Φ₁
  isplitl [Hz HE HR HS]
  · isplitl [Hz]; iexact Hz
    isplitl [HE]; iexact HE
    isplitl [HR] <;> iassumption
  isplitl [Ho]; iapply (ow_close m ρ c) $$ Ho
  isplitl [Hx]; iapply (stg_of c cc0_stg0_0 _) $$ Hx
  isplitl [Hw]; iapply (stg_of c cc0_stg1_0 _) $$ Hw
  iapply (stg_of c cc0_stg2_0 _) $$ Hout

/-- The library's body obligation on core `c`. -/
theorem body_obligation (c : Dev nD) : BodyObligation (dats (F := F) m ρ 0 c) (defs₀ (F := F)) 𝒱₀ () Set.univ := fun t => by
  rw [fin_N0 t, bigSep_W0, bigSep_W0]
  simp only [owns_whole_eq]
  exact sound_body m ρ c

/-! ## The side conditions of the launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argsOf m) c)
      ⊢ |={Set.univ}=> iprop(start m c ∗ emp) := by
  have hat := fam_cells (F := F) fun s => atPos ER ((c : Thread nD τ), s) 0 ∅ 0
  unfold G' linear
  rw [hat]
  unfold start ctx shared res payToks
  iintro ⟨-, Hlev, Hcr, -, ⟨⟨HI, HR⟩, ⟨HB, Hf⟩, Ht⟩⟩
  ihave Hc := (creds (F := F) c) $$ Hcr
  icases Hc with ⟨H1, H2, H3⟩
  icases Ht with ⟨Ht1, Ht2⟩
  imodintro
  isplitl
  · isplitl [HI HR Hlev]
    · isplitl [HI]; iexact HI
      isplitl [HR] <;> iassumption
    isplitl [HB]; iexact HB
    isplitl [Hf]; iexact Hf
    isplitl [Ht1]; iexact Ht1
    isplitl [Ht2]; iexact Ht2
    isplitl [H1]; iexact H1
    isplitl [H2] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ anyE anyR anyS
  iintro ⟨Hs, -, HE, HR, HS⟩
  isplitl [Hs]; iexact Hs
  isplitl [HE]; iexact HE
  isplitl [HR] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ anyE anyR anyS zeros
  iintro ⟨⟨HB, HO⟩, HE, HR, HS⟩
  isplitl [HB]; iexact HB
  isplitl [HO]; iexact HO
  isplitl [HE]; iexact HE
  isplitl [HR] <;> iassumption

theorem pays_above : ∀ t ∈ payL, 0 < tlv t := by decide +kernel

theorem waits (c : Dev nD) : (levAts L lv : sProp 𝕄) ⊢ Pipeline.cellsWaits cfgs (dats m ρ) () 0 c :=
  Pipeline.cellsWaits_intro cfgs (dats m ρ) () 0 c fun w s t => by
    have h0 : slv (.dma (((cfgs 0).win w).sem s)) = 0 := by fin_cases w <;> fin_cases s <;> decide
    rcases t with ⟨_ | _, ht⟩
    · exact mayWait c _ payL fun t ht => by rw [h0]; exact pays_above t ht
    · exact mayWait c _ [] fun t ht => absurd ht List.not_mem_nil

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution of the program on the eight devices ends, every array
    at what the windows leave in it and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (argsOf m)) (G' := G' (argsOf m)) (u₀ := u₀)
    (hu₀ := by
      unfold u₀
      iintro Hu
      ihave H := (ownU_pair _ _) $$ Hu
      icases H with ⟨HP, HX⟩
      imod (fund_ring (argsOf m)) $$ HX with HG
      imodintro
      isplitl [HP] <;> iassumption)
    (hglob := glob (argsOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Soft

end
-- ==== Proof.Frames.lean ====
/- What a run leaves in the arrays: the arguments as they were, the result at the values that the devices compute. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent
public import Idealize.ShloMosaic.Lib.Pipeline.ValueKit

@[expose] public section

set_option maxRecDepth 16384

noncomputable section

namespace Cert.KernelIdeal.Soft

open Idealize.ShloMosaic Idealize.ShloMosaic.TcCoe
open Idealize.SL.Sem
open Cert.KernelIdeal.Gen

variable {F : FTy → Type} [FloatOps F]
variable (m : (ℓ : Loc nD τ sig) → Buf (Elt F) ℓ) (ρ : Dev nD → PrngReg)

/-- The activations are what they were. -/
theorem final_x (c : Dev nD) : finalA m ρ c 0 = m ((c.tc : Thread nD τ).loc main_arg0) :=
  (dats (F := F) m ρ 0 c).arrAt_in (0 : Fin 3) rfl _
/-- The weights are what they were. -/
theorem final_w (c : Dev nD) : finalA m ρ c 1 = m ((c.tc : Thread nD τ).loc main_arg1) :=
  (dats (F := F) m ρ 0 c).arrAt_in (1 : Fin 3) rfl _

/-- A device's activations as the kernel reads them are the argument. -/
theorem args_x (c : Dev nD) : (argsOf m).x c = m ((c.tc : Thread nD τ).loc main_arg0) := by
  funext j
  refine congrArg (m ((c.tc : Thread nD τ).loc main_arg0)) (funext fun k => Fin.ext ?_)
  fin_cases k
  · show 0 * _ + 1 * (j 0).val = (j 0).val; omega
  · show 0 * _ + 1 * (j 1).val = (j 1).val; omega
/-- A device's weights as the kernel reads them are the argument. -/
theorem args_w (c : Dev nD) : (argsOf m).w c = m ((c.tc : Thread nD τ).loc main_arg1) := by
  funext j
  refine congrArg (m ((c.tc : Thread nD τ).loc main_arg1)) (funext fun k => Fin.ext ?_)
  fin_cases k
  · show 0 * _ + 1 * (j 0).val = (j 0).val; omega
  · show 0 * _ + 1 * (j 1).val = (j 1).val; omega

/-- The result holds the output that the device computes. -/
theorem final_o (c : Dev nD) : finalA m ρ c 2 = (argsOf m).OUT c := by
  refine (dats m ρ 0 c).arrAt_eq_of_after_last 2 t0_0 (by decide +kernel) _ fun j => ?_
  blk_simp
  rfl

/-- The run, read at the buffers of the arguments and of the result. -/
theorem run_vals : θ_run defs (onTc (τ := τ) (main (F := F))) ⟨m, fun _ => 0, ρ⟩ (fun r => (∀ c : Dev nD,
    r.2.mem ((c.tc : Thread nD τ).loc main_v1) = (argsOf m).OUT c
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run defs _ _).mono (fun _ h => ⟨fun c => ⟨(h.1 c 2).trans (final_o m ρ c), (h.1 c 0).trans (final_x m ρ c), (h.1 c 1).trans (final_w m ρ c)⟩, h.2⟩)
    (run_main m ρ)

end Cert.KernelIdeal.Soft

namespace Cert.Proof

open Idealize.ShloMosaic Idealize.SL.Sem

/-- The idealized kernel ends, its arguments unchanged and its counters at zero. -/
theorem frame_ideal : Cert.quiescent_KernelIdeal := fun m ρ _ =>
  (θ_run Cert.KernelIdeal.defs _ _).mono (fun _ h => ⟨fun c => (h.1 c).2, h.2⟩) (Cert.KernelIdeal.Soft.run_vals (F := Ideal) m ρ)

/-- The two programs run the same body. -/
theorem defs₀_eq : Cert.Kernel.defs₀ (F := Bits) = Cert.KernelIdeal.defs₀ (F := Bits) :=
  congrArg Defs.onTc (funext fun l => funext fun p => match l, p with
    | ⟨0, _⟩, (_, _) => rfl
    | ⟨_ + 1, h⟩, _ => absurd h (Nat.not_lt.2 (Nat.le_add_left _ _)))
theorem defs_eq : Cert.Kernel.defs (F := Bits) = Cert.KernelIdeal.defs (F := Bits) :=
  congrArg (Pipeline.defs Cert.KernelIdeal.pcfgs) defs₀_eq

/-- The kernel ends, its arguments unchanged and its counters at zero. -/
theorem frame_kernel : Cert.quiescent_Kernel := by
  intro m ρ _
  rw [defs_eq]
  exact (θ_run (Cert.KernelIdeal.defs (F := Bits)) (onTc (τ := Cert.KernelIdeal.τ) (Cert.KernelIdeal.main (F := Bits))) ⟨m, fun _ => 0, ρ⟩).mono
    (fun _ h => ⟨fun c => (h.1 c).2, h.2⟩) (Cert.KernelIdeal.Soft.run_vals (F := Bits) m ρ)

/-- The reference ends, its arguments unchanged and its counters at zero: it declares none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Payloads.lean ====
/- The payloads at the ideal values, read at an index. -/
module

public import proofs.«01_k».proof.Proof.Content
public import Idealize.ShloMosaic.PureOps.Ideal
public import Idealize.ShloMosaic.PureOps.Ideal.Laws
public import Idealize.ShloMosaic.Lib.Pointwise
public import Idealize.ShloMosaic.Lib.IdealHost

@[expose] public section

set_option maxRecDepth 16384

noncomputable section

namespace Cert.KernelIdeal.Soft

open Idealize.ShloMosaic hiding ix1 ix2 ix3 ix4 ix5
open Idealize.ShloMosaic.TcCoe
open Idealize.SL.Sem Idealize.ShloMosaic.ValueIdx
open Cert.KernelIdeal.Gen

/-- A strip's exponentials: of the logits. -/
theorem pay3_apply (x : Vec Ideal S256x512 .bf16) (w : Vec Ideal S512x256 .bf16) (r : Fin 256) (j : Fin 256) :
    k0_pay3 (F := Ideal) x w (ix2 r j) = Ideal.exp (∑ k : Fin 512, x (ix2 r k) * w (ix2 k j)) := by
  pointwise [k0_pay3, k0_pay1]
  simp only [ix2_eq_valueIdx, ix3_eq_valueIdx, ix5_eq_valueIdx]

/-- A quarter's exponentials: of the logits. -/
theorem pay49_apply (x : Vec Ideal S256x512 .bf16) (w : Vec Ideal S512x1024 .bf16) (r : Fin 256) (j : Fin 1024) :
    k0_pay49 (F := Ideal) (k0_pay1 x) w (ix2 r j) = Ideal.exp (∑ k : Fin 512, x (ix2 r k) * w (ix2 k j)) := by
  pointwise [k0_pay49, k0_pay1]
  simp only [ix2_eq_valueIdx, ix3_eq_valueIdx, ix5_eq_valueIdx]

/-- A strip's contribution to the row sums. -/
theorem pay8_apply (a : FVec Ideal S256x1 .f32) (e : FVec Ideal S256x256 .f32) (r : Fin 256) :
    k0_pay8 (F := Ideal) a e (ix2 r 0) = a (ix2 r 0) + ∑ j : Fin 256, e (ix2 r j) := by
  pointwise [k0_pay8]
  simp only [ix2_eq_valueIdx, ix3_eq_valueIdx, ix5_eq_valueIdx]

/-- A quarter's contribution to the row sums. -/
theorem pay48_apply (a : FVec Ideal S256x1 .f32) (e : FVec Ideal S256x1024 .f32) (r : Fin 256) :
    k0_pay48 (F := Ideal) a e (ix2 r 0) = a (ix2 r 0) + ∑ j : Fin 1024, e (ix2 r j) := by
  pointwise [k0_pay48]
  simp only [ix2_eq_valueIdx, ix3_eq_valueIdx, ix5_eq_valueIdx]

/-- The last quarter's contribution to the row sums. -/
theorem pay60_apply (a : FVec Ideal S256x1 .f32) (e : FVec Ideal S256x1024 .f32) (r : Fin 256) :
    k0_pay60 (F := Ideal) a e (ix2 r 0) = a (ix2 r 0) + ∑ j : Fin 1024, e (ix2 r j) := by
  pointwise [k0_pay60]
  simp only [ix2_eq_valueIdx, ix3_eq_valueIdx, ix5_eq_valueIdx]

/-- The row sums as they are sent: one in every lane. -/
theorem pay61_apply (a : FVec Ideal S256x1 .f32) (e : FVec Ideal S256x1024 .f32) (r : Fin 256) (l : Fin 8) :
    k0_pay61 (F := Ideal) a e (ix3 0 r l) = k0_pay60 (F := Ideal) a e (ix2 r 0) := by
  pointwise [k0_pay61]
  simp only [ix2_eq_valueIdx, ix3_eq_valueIdx, ix5_eq_valueIdx]

/-- The reciprocal of the two halves' row sums. -/
theorem pay62_apply (a : FVec Ideal S256x1 .f32) (v : Vec Ideal S1x256x1 .f32) (r : Fin 256) :
    k0_pay62 (F := Ideal) a v (ix2 r 0) = Ideal.div 1 (a (ix2 r 0) + v (ix3 0 r 0)) := by
  pointwise [k0_pay62]
  simp only [ix2_eq_valueIdx, ix3_eq_valueIdx, ix5_eq_valueIdx]

/-- A tile of the output: its two parts' exponentials, each by its row's reciprocal. -/
theorem pay63_apply (i : FVec Ideal S256x1 .f32) (a b : Vec Ideal S1x1x1x256x128 .bf16) (r : Fin 256) (j : Fin 256) :
    k0_pay63 (F := Ideal) i a b (ix2 r j)
      = (if h : j.val < 128 then a (ix5 0 0 0 r ⟨j.val, h⟩) else b (ix5 0 0 0 r ⟨j.val - 128, by omega⟩)) * i (ix2 r 0) := by
  pointwise [k0_pay63]
  simp only [ix2_eq_valueIdx, ix3_eq_valueIdx, ix5_eq_valueIdx]

end Cert.KernelIdeal.Soft

end
-- ==== Proof.Sums.lean ====
/- The output at the ideal values: each exponential by the reciprocal of the sum of its row's. -/
module

public import proofs.«01_k».proof.Proof.Payloads
public import proofs.«01_k».proof.Proof.Parts

@[expose] public section

set_option maxRecDepth 16384

noncomputable section

namespace Cert.KernelIdeal.Soft

open Idealize.ShloMosaic hiding ix1 ix2 ix3 ix4 ix5
open Idealize.ShloMosaic.TcCoe
open Idealize.SL.Sem Idealize.ShloMosaic.ValueIdx
open Cert.KernelIdeal.Gen

/-- The whole weights, of which every device holds one half. -/
abbrev SW : Shape := ⟨2, ![512, 8192]⟩

/-- A logit, at any number as its column: zero past the last column. -/
def lg (X : S256x512.Idx → EReal) (W : SW.Idx → EReal) (r : Fin 256) (n : ℕ) : EReal :=
  ∑ k : Fin 512, X (ix2 r k) * (if h : n < 8192 then W (ix2 k ⟨n, h⟩) else 0)
/-- Its exponential. -/
def en (X : S256x512.Idx → EReal) (W : SW.Idx → EReal) (r : Fin 256) (n : ℕ) : EReal := Ideal.exp (lg X W r n)

/-- The arguments are those of a whole product: every device's activations are the whole ones, its weights its half. -/
structure Whole (A : Args Ideal) (X : S256x512.Idx → EReal) (W : SW.Idx → EReal) : Prop where
  x : ∀ c, A.x c = X
  w : ∀ c (k : Fin 512) (j : Fin 4096), A.w c (ix2 k j) = if h : 4096 * (c.val % 2) + j.val < 8192 then W (ix2 k ⟨4096 * (c.val % 2) + j.val, h⟩) else 0

variable {A : Args Ideal} {X : S256x512.Idx → EReal} {W : SW.Idx → EReal} (H : Whole A X W)
include H

theorem strip_en (c : Dev nD) (t : Fin 16) (r j : Fin 256) :
    k0_pay3 (A.x c) (wS (A.w c) t) (ix2 r j) = en X W r (4096 * (c.val % 2) + 256 * t.val + j.val) := by
  rw [pay3_apply, H.x]
  refine congrArg Ideal.exp (Finset.sum_congr rfl fun k _ => congrArg _ ?_)
  refine (H.w c k ⟨256 * t.val + j.val, by omega⟩).trans ?_
  simp only [Nat.add_assoc]

theorem quarter_en (c : Dev nD) (a : Fin 4) (r : Fin 256) (j : Fin 1024) :
    k0_pay49 (k0_pay1 (A.x c)) (wQ (A.w c) a) (ix2 r j) = en X W r (4096 * (c.val % 2) + 1024 * a.val + j.val) := by
  rw [pay49_apply, H.x]
  refine congrArg Ideal.exp (Finset.sum_congr rfl fun k _ => congrArg _ ?_)
  refine (H.w c k ⟨1024 * a.val + j.val, by omega⟩).trans ?_
  simp only [Nat.add_assoc]

/-- A device's buffer holds the exponentials of its half. -/
theorem eb_en (c : Dev nD) (a s : Fin 4) (h : Fin 2) (r : Fin 256) (j : Fin 128) :
    A.EB c (ix5 a s h r j) = en X W r (4096 * (c.val % 2) + 1024 * a.val + 256 * s.val + 128 * h.val + j.val) := by
  by_cases ha : a.val = (qo c).val
  · refine (if_pos ha).trans ((strip_en H c ⟨4 * (qo c).val + s.val, by omega⟩ r ⟨128 * h.val + j.val, by omega⟩).trans ?_)
    refine congrArg (en X W r) ?_
    show 4096 * (c.val % 2) + 256 * (4 * (qo c).val + s.val) + (128 * h.val + j.val) = _
    omega
  · refine (if_neg ha).trans ((quarter_en H c a r ⟨256 * s.val + 128 * h.val + j.val, by omega⟩).trans ?_)
    refine congrArg (en X W r) ?_
    show 4096 * (c.val % 2) + 1024 * a.val + (256 * s.val + 128 * h.val + j.val) = _
    omega

/-- The received buffer holds those of the other half. -/
theorem xb_en (c : Dev nD) (a s : Fin 4) (h : Fin 2) (r : Fin 256) (j : Fin 128) :
    A.XB c (ix5 a s h r j) = en X W r (4096 * (1 - c.val % 2) + 1024 * a.val + 256 * s.val + 128 * h.val + j.val) := by
  refine (eb_en H (Args.owner c a) a s h r j).trans (congrArg (en X W r) ?_)
  show 4096 * ((2 * a.val + (1 - c.val % 2)) % 2) + _ + _ + _ + _ = _
  omega

omit H in
/-- Four pieces of `n` columns. -/
theorem four_pieces (f : ℕ → EReal) (n b : ℕ) :
    ∑ a : Fin 4, ∑ j ∈ Finset.range n, f (b + n * a.val + j) = ∑ j ∈ Finset.range (4 * n), f (b + j) := by
  rw [show 4 * n = n + n + n + n by ring, Finset.sum_range_add, Finset.sum_range_add, Finset.sum_range_add, Fin.sum_univ_four]
  simp only [Fin.val_zero, Fin.val_one, Fin.val_two, show (3 : Fin 4).val = 3 from rfl]
  congr 1; congr 1; congr 1
  all_goals refine Finset.sum_congr rfl fun j _ => congrArg f (by ring)

/-- A device's row sums are the sums of its half. -/
theorem rows_en (c : Dev nD) (r : Fin 256) :
    k0_pay60 (A.AC c).1 (A.AC c).2 (ix2 r 0) = ∑ j ∈ Finset.range 4096, en X W r (4096 * (c.val % 2) + j) := by
  have hS : ∀ s : Fin 4, ∑ j : Fin 256, k0_pay3 (A.x c) (wS (A.w c) ⟨4 * (qo c).val + s.val, by omega⟩) (ix2 r j)
      = ∑ j ∈ Finset.range 256, en X W r (4096 * (c.val % 2) + 1024 * (qo c).val + 256 * s.val + j) := fun s => by
    rw [Finset.sum_range]
    refine Finset.sum_congr rfl fun j _ => (strip_en H c _ r j).trans (congrArg (en X W r) ?_)
    show 4096 * (c.val % 2) + 256 * (4 * (qo c).val + s.val) + j.val = _
    omega
  have hQ : ∀ a : Fin 4, ∑ j : Fin 1024, k0_pay49 (k0_pay1 (A.x c)) (wQ (A.w c) a) (ix2 r j)
      = ∑ j ∈ Finset.range 1024, en X W r (4096 * (c.val % 2) + 1024 * a.val + j) := fun a => by
    rw [Finset.sum_range]
    exact Finset.sum_congr rfl fun j _ => quarter_en H c a r j
  have h4 := four_pieces (en X W r) 256 (4096 * (c.val % 2) + 1024 * (qo c).val)
  have h16 := four_pieces (en X W r) 1024 (4096 * (c.val % 2))
  rw [← (Equiv.ofBijective _ (qj_bij c)).sum_comp, Fin.sum_univ_four] at h16
  rw [Fin.sum_univ_four] at h4
  simp only [Equiv.ofBijective_apply, qj_zero] at h16
  rw [← h16, ← h4]
  show k0_pay60 (acOf c (A.x c) (A.w c)).1 (acOf c (A.x c) (A.w c)).2 (ix2 r 0) = _
  unfold acOf
  dsimp only
  rw [pay60_apply, pay48_apply, pay48_apply, pay8_apply, pay8_apply, pay8_apply, pay8_apply, hS 0, hS 1, hS 2, hS 3, hQ, hQ, hQ]
  rw [show k0_pay2 (F := Ideal) (ix2 r 0) = 0 from Ideal.ofBits_zero_f32, zero_add]

/-- Two devices of a pair hold the two halves. -/
theorem inv_en (c : Dev nD) (r : Fin 256) : A.INV c (ix2 r 0) = Ideal.div 1 (∑ j ∈ Finset.range 8192, en X W r j) := by
  refine (pay62_apply _ _ r).trans (congrArg (Ideal.div 1) ?_)
  have h1 := rows_en H c r
  have h2 : A.SB (zp c) (ix3 (1 : Fin 2) r (0 : Fin 8)) = _ := (pay61_apply _ _ r 0).trans (rows_en H (zp c) r)
  refine (congrArg₂ (· + ·) h1 h2).trans ?_
  rw [show 8192 = 4096 + 4096 from rfl, Finset.sum_range_add]
  have hz : (zp c).val % 2 = 1 - c.val % 2 := by show (4 * (c.val / 4) + 2 * ((c.val / 2) % 2) + (1 - c.val % 2)) % 2 = _; omega
  rw [hz]
  rcases Nat.mod_two_eq_zero_or_one c.val with e | e <;> rw [e]
  · simp
  · rw [add_comm]; simp

/-- The output: the exponential by the reciprocal. -/
theorem out_en (c : Dev nD) (r : Fin 256) (n : Fin 8192) :
    A.OUT c (ix2 r n) = en X W r n.val * Ideal.div 1 (∑ j ∈ Finset.range 8192, en X W r j) := by
  rw [← inv_en H c r]
  have key : ∀ (f : FVec Ideal S4x4x2x256x128 .bf16) (z : ℕ) (hz : z = n.val / 256 / 16)
      (hf : ∀ (a s : Fin 4) (h : Fin 2) (r : Fin 256) (j : Fin 128), f (ix5 a s h r j) = en X W r (4096 * z + 1024 * a.val + 256 * s.val + 128 * h.val + j.val)),
      k0_pay63 (A.INV c) (blk f ⟨n.val / 256 / 4 % 4, by omega⟩ ⟨n.val / 256 % 4, by omega⟩ 0) (blk f ⟨n.val / 256 / 4 % 4, by omega⟩ ⟨n.val / 256 % 4, by omega⟩ 1)
        (ix2 r (⟨n.val % 256, by omega⟩ : Fin 256)) = en X W r n.val * A.INV c (ix2 r 0) := by
    intro f z hz hf
    rw [pay63_apply]
    refine congrArg (· * _) ?_
    split
    · rename_i h
      refine (hf _ _ _ r ⟨n.val % 256, h⟩).trans (congrArg (en X W r) ?_)
      show 4096 * z + 1024 * (n.val / 256 / 4 % 4) + 256 * (n.val / 256 % 4) + 128 * 0 + n.val % 256 = n.val
      omega
    · rename_i h
      refine (hf _ _ _ r ⟨n.val % 256 - 128, by omega⟩).trans (congrArg (en X W r) ?_)
      have h' : ¬ n.val % 256 < 128 := h
      show 4096 * z + 1024 * (n.val / 256 / 4 % 4) + 256 * (n.val / 256 % 4) + 128 * 1 + (n.val % 256 - 128) = n.val
      omega
  by_cases hc : n.val / 256 / 16 = c.val % 2
  · exact (congrFun (if_pos hc) _).trans (key (A.EB c) (c.val % 2) hc.symm (eb_en H c))
  · exact (congrFun (if_neg hc) _).trans (key (A.XB c) (1 - c.val % 2) (by omega) (xb_en H c))

end Cert.KernelIdeal.Soft

end
-- ==== Proof.Reference.lean ====
/- The reference at the ideal values, read at an index. -/
module

public import proofs.«01_k».proof.Proof.Sums
public import proofs.«01_k».proof.Proof.Gen.ReferenceIdeal

@[expose] public section

set_option maxRecDepth 16384

noncomputable section

namespace Cert.ReferenceIdeal.Soft

open Idealize.ShloMosaic hiding ix1 ix2 ix3 ix4 ix5
open Idealize.ShloMosaic.TcCoe
open Idealize.SL.Sem Idealize.ShloMosaic.ValueIdx
open Cert.ReferenceIdeal Cert.ReferenceIdeal.Gen

variable {F : FTy → Type} [FloatOps F]

/-- The logits. -/
def lgts (x : FVec F S256x512 .bf16) (w : FVec F S512x8192 .bf16) : FVec F S256x8192 .f32 :=
  Host.dotGeneral dot_S256x512_S512x8192_S256x8192_1_0_0_1_n_n none (extf .f32 x bitsLt_bf16_f32) (extf .f32 w bitsLt_bf16_f32)
/-- The greatest logit of each row. -/
def tops (l : FVec F S256x8192 .f32) : FVec F S256 .f32 :=
  Host.reduce FloatOps.maximumf l (constant S_ .f32 0xFF800000#32) reducesTo_S256x8192_S256_d1 h_S_
/-- A value to each row, spread over the row's columns. -/
def rows (v : FVec F S256 .f32) : FVec F S256x8192 .f32 :=
  broadcastInDim S256x8192 ![0, 1] bcast_S256x1_S256x8192_0_1 (broadcastInDim S256x1 ![0] bcast_S256_S256x1_0 v)
/-- The exponentials of the logits less their row's greatest. -/
def exps (l : FVec F S256x8192 .f32) : FVec F S256x8192 .f32 := Host.exp (subf l (rows (tops l)))
/-- The reference's result. -/
def result (x : FVec F S256x512 .bf16) (w : FVec F S512x8192 .bf16) : FVec F S256x8192 .f32 :=
  Host.divf (exps (lgts x w)) (rows (Host.reduceAdd (exps (lgts x w)) (constant S_ .f32 0x00000000#32) reducesTo_S256x8192_S256_d1 h_S_))

/-- A logit. -/
theorem lgts_apply (x : FVec Ideal S256x512 .bf16) (w : FVec Ideal S512x8192 .bf16) (r : Fin 256) (n : Fin 8192) :
    lgts x w (ix2 r n) = ∑ k : Fin 512, x (ix2 r k) * w (ix2 k n) := by
  pointwise [lgts]
  simp only [ix1_eq_valueIdx, ix2_eq_valueIdx]

/-- A row's greatest logit: the fold of the maximum over its columns. -/
theorem tops_apply (l : FVec Ideal S256x8192 .f32) (r : Fin 256) :
    tops l (ix1 r) = (Finset.univ : Finset (Fin 8192)).fold max ⊥ fun n => l (ix2 r n) := by
  pointwise [tops]
  simp only [ix1_eq_valueIdx, ix2_eq_valueIdx]
  rw [show Ideal.ofBits FTy.f32 4286578688#32 = ⊥ from by simp [Ideal.ofBits, Ideal.ieee]]

/-- A value spread over its row. -/
theorem rows_apply (v : FVec Ideal S256 .f32) (r : Fin 256) (n : Fin 8192) : rows v (ix2 r n) = v (ix1 r) := by
  pointwise [rows]
  simp only [ix1_eq_valueIdx, ix2_eq_valueIdx]

/-- An exponential. -/
theorem exps_apply (l : FVec Ideal S256x8192 .f32) (r : Fin 256) (n : Fin 8192) :
    exps l (ix2 r n) = Ideal.exp (l (ix2 r n) - tops l (ix1 r)) := by
  pointwise [exps, rows]
  simp only [ix1_eq_valueIdx, ix2_eq_valueIdx]

/-- A result: the exponential divided by the sum of its row's. -/
theorem result_apply (x : FVec Ideal S256x512 .bf16) (w : FVec Ideal S512x8192 .bf16) (r : Fin 256) (n : Fin 8192) :
    result x w (ix2 r n) = Ideal.div (exps (lgts x w) (ix2 r n)) (∑ j : Fin 8192, exps (lgts x w) (ix2 r j)) := by
  pointwise [result, rows]
  simp only [ix1_eq_valueIdx, ix2_eq_valueIdx]

/-! ## Finite arguments -/

/-- The sum of real numbers, among the extended ones. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A logit of finite arguments is a real number. -/
theorem lgts_real (x : FVec Ideal S256x512 .bf16) (w : FVec Ideal S512x8192 .bf16)
    (hx : ∀ i, ∃ a : ℝ, x i = (a : EReal)) (hw : ∀ i, ∃ a : ℝ, w i = (a : EReal)) (r : Fin 256) (n : Fin 8192) :
    ∃ a : ℝ, lgts x w (ix2 r n) = (a : EReal) := by
  choose xr hxr using hx
  choose wr hwr using hw
  refine ⟨∑ k : Fin 512, xr (ix2 r k) * wr (ix2 k n), ?_⟩
  rw [lgts_apply, coe_sum]
  exact Finset.sum_congr rfl fun k _ => by rw [hxr, hwr, EReal.coe_mul]

/-- The greatest of a row of real logits is a real number. -/
theorem tops_real (l : FVec Ideal S256x8192 .f32) (r : Fin 256) (f : Fin 8192 → ℝ) (hf : ∀ n, l (ix2 r n) = (f n : EReal)) :
    ∃ M : ℝ, tops l (ix1 r) = (M : EReal) := by
  rw [tops_apply]
  obtain ⟨i, -, hi⟩ := Finset.exists_mem_eq_sup (Finset.univ : Finset (Fin 8192)) ⟨0, Finset.mem_univ _⟩ (fun n => l (ix2 r n))
  exact ⟨f i, hi.trans (hf i)⟩

/-- The quotient by a real number that is not zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A softmax does not change when the same number is taken from every logit of the row. -/
theorem shift (f : Fin 8192 → ℝ) (M : ℝ) (n : Fin 8192) :
    Real.exp (f n - M) / ∑ j, Real.exp (f j - M) = Real.exp (f n) * (1 / ∑ j, Real.exp (f j)) := by
  simp only [Real.exp_sub]
  rw [← Finset.sum_div, div_div_div_cancel_right₀ (Real.exp_ne_zero M), mul_one_div]

/-- The result on a row of real logits: the exponential by the reciprocal of the sum of its row's. -/
theorem result_real (x : FVec Ideal S256x512 .bf16) (w : FVec Ideal S512x8192 .bf16) (r : Fin 256) (n : Fin 8192)
    (h : ∀ n, ∃ a : ℝ, lgts x w (ix2 r n) = (a : EReal)) :
    result x w (ix2 r n) = Ideal.exp (lgts x w (ix2 r n)) * Ideal.div 1 (∑ j : Fin 8192, Ideal.exp (lgts x w (ix2 r j))) := by
  choose f hf using h
  obtain ⟨M, hM⟩ := tops_real _ r f hf
  have he : ∀ j, exps (lgts x w) (ix2 r j) = ((Real.exp (f j - M) : ℝ) : EReal) := fun j => by
    rw [exps_apply, hf, hM, ← EReal.coe_sub, Ideal.exp_coe]
  have hp : ∀ g : Fin 8192 → ℝ, ∑ j, Real.exp (g j) ≠ 0 := fun g =>
    (Finset.sum_pos (fun j _ => Real.exp_pos (g j)) ⟨0, Finset.mem_univ _⟩).ne'
  rw [result_apply]
  simp only [he, hf, Ideal.exp_coe]
  rw [← coe_sum, ← coe_sum, div_real _ _ (hp fun j => f j - M), ← EReal.coe_one, div_real _ _ (hp f), ← EReal.coe_mul, shift]

end Cert.ReferenceIdeal.Soft

end
-- ==== Proof.Value.lean ====
/- On finite arguments the idealized kernel and the reference leave the same result. -/
module

public import proofs.«01_k».proof.Proof.Frames
public import proofs.«01_k».proof.Proof.Reference

@[expose] public section

set_option maxRecDepth 16384

noncomputable section

namespace Cert.Proof

open Idealize.ShloMosaic hiding ix1 ix2 ix3 ix4 ix5 eq_ix2
open Idealize.ShloMosaic.TcCoe
open Idealize.SL.Sem Idealize.ShloMosaic.ValueIdx
open Cert.KernelIdeal.Soft (Args Whole SW lg en out_en argsOf args_x args_w)
open Cert.ReferenceIdeal.Soft (lgts result lgts_apply lgts_real result_real)

/-- The shapes that the precondition states on a device's arguments. -/
theorem pre_facts : Cert.Pre_finite_inputs_KernelIdeal.Facts := ⟨by decide, by decide⟩
/-- The shapes that it states on the whole arguments. -/
theorem pre_facts_whole : Cert.Pre_finite_inputs_ReferenceIdeal.Facts := ⟨by decide, by decide⟩

/-- A value whose magnitude is below the infinite one is a real number. -/
theorem real_of_lt (a : EReal) (h : max a (-a) < ⊤) : ∃ r : ℝ, a = (r : EReal) := by
  induction a using EReal.rec with
  | bot => simp at h
  | top => simp at h
  | coe r => exact ⟨r, rfl⟩

/-- The precondition on a device's activations: they are real numbers. -/
theorem pre_x (x : FVec Ideal Cert.Pre_finite_inputs_KernelIdeal.S256x512 .bf16) (w : FVec Ideal Cert.Pre_finite_inputs_KernelIdeal.S512x4096 .bf16)
    (h : (@Cert.Pre_finite_inputs_KernelIdeal.fn pre_facts Ideal _ x w).1 = fun _ => 1#1) (i) : ∃ r : ℝ, x i = (r : EReal) := by
  have h' := congrFun h i
  pointwise [Cert.Pre_finite_inputs_KernelIdeal.fn] at h'
  rw [show Ideal.ofBits FTy.bf16 32640#16 = ⊤ from by simp [Ideal.ofBits, Ideal.ieee]] at h'
  refine real_of_lt _ (of_decide_eq_true ?_)
  cases hb : decide (max (x i) (-(x i)) < (⊤ : EReal)) with
  | true => rfl
  | false =>
    rw [show (decide (FloatOps.absf (x i) < (⊤ : EReal))) = false from hb] at h'
    exact absurd h' (by decide)

/-- The precondition on a device's weights: they are real numbers. -/
theorem pre_w (x : FVec Ideal Cert.Pre_finite_inputs_KernelIdeal.S256x512 .bf16) (w : FVec Ideal Cert.Pre_finite_inputs_KernelIdeal.S512x4096 .bf16)
    (h : (@Cert.Pre_finite_inputs_KernelIdeal.fn pre_facts Ideal _ x w).2 = fun _ => 1#1) (i) : ∃ r : ℝ, w i = (r : EReal) := by
  have h' := congrFun h i
  pointwise [Cert.Pre_finite_inputs_KernelIdeal.fn] at h'
  rw [show Ideal.ofBits FTy.bf16 32640#16 = ⊤ from by simp [Ideal.ofBits, Ideal.ieee]] at h'
  refine real_of_lt _ (of_decide_eq_true ?_)
  cases hb : decide (max (w i) (-(w i)) < (⊤ : EReal)) with
  | true => rfl
  | false =>
    rw [show (decide (FloatOps.absf (w i) < (⊤ : EReal))) = false from hb] at h'
    exact absurd h' (by decide)

/-- A device's half of the weights, at an index. -/
theorem half_apply (W : SW.Idx → EReal) (c : Dev Cert.KernelIdeal.nD) (k : Fin 512) (j : Fin 4096) :
    (Layout.blockN ⟨2, ![512, 4096]⟩ ⟨2, ![512, 8192]⟩ (Layout.meshBlock [2, 2, 2] ![[], [2]] c) W) (ix2 k j)
      = W (ix2 k ⟨4096 * (c.val % 2) + j.val, by omega⟩) := by
  rw [Layout.blockN_apply]
  refine congrArg W (funext fun a => Fin.ext ?_)
  rw [Layout.TilesN.idx_val]
  have hc : ∀ c : Dev Cert.KernelIdeal.nD, Layout.meshLin [2, 2, 2] c.val [2] = c.val % 2 := by decide
  match a with
  | ⟨0, _⟩ => show 0 * 512 + k.val = k.val; omega
  | ⟨1, _⟩ =>
    show Layout.meshLin [2, 2, 2] c.val [2] * 4096 + j.val = 4096 * (c.val % 2) + j.val
    rw [hc]; omega

/-- A logit at a column's number is the reference's. -/
theorem lg_eq (X : FVec Ideal Cert.ReferenceIdeal.S256x512 .bf16) (W : FVec Ideal Cert.ReferenceIdeal.S512x8192 .bf16) (r : Fin 256) (n : Fin 8192) :
    lg X W r n.val = lgts X W (ix2 r n) := by
  rw [lgts_apply]
  exact Finset.sum_congr rfl fun k _ => congrArg _ (dif_pos n.isLt)

/-- On finite arguments what a device leaves is the reference's result. -/
theorem out_eq (A : Args Ideal) (X : FVec Ideal Cert.ReferenceIdeal.S256x512 .bf16) (W : FVec Ideal Cert.ReferenceIdeal.S512x8192 .bf16)
    (H : Whole A X W) (hx : ∀ i, ∃ a : ℝ, X i = (a : EReal)) (hw : ∀ i, ∃ a : ℝ, W i = (a : EReal)) (c : Dev Cert.KernelIdeal.nD) :
    A.OUT c = result X W := by
  funext i
  obtain ⟨r, n, rfl⟩ : ∃ (r : Fin 256) (n : Fin 8192), i = ix2 r n := ⟨i 0, i 1, eq_ix2 i⟩
  rw [out_en H, result_real X W r n fun n => lgts_real X W hx hw r n, Finset.sum_range]
  simp only [en, lg_eq]

/-- The idealized kernel and the reference, run on the same finite arguments, leave the same result on every device. -/
theorem algebraic : @Cert.algebraic_KernelIdeal_ReferenceIdeal_pre_finite_inputs_KernelIdeal Cert.KernelIdeal.Gen.facts Cert.ReferenceIdeal.Gen.facts pre_facts := by
  intro m g m' g' hpre hag
  let X : FVec Ideal Cert.ReferenceIdeal.S256x512 .bf16 := m' (((0 : Dev Cert.ReferenceIdeal.nD).tc : Thread Cert.ReferenceIdeal.nD Cert.ReferenceIdeal.τ).loc Cert.ReferenceIdeal.main_arg0)
  let W : FVec Ideal Cert.ReferenceIdeal.S512x8192 .bf16 := m' (((0 : Dev Cert.ReferenceIdeal.nD).tc : Thread Cert.ReferenceIdeal.nD Cert.ReferenceIdeal.τ).loc Cert.ReferenceIdeal.main_arg1)
  have hH : Whole (argsOf m) X W := ⟨fun c => (args_x m c).trans (hag c).1, fun c k j => by
    rw [dif_pos (by omega)]
    exact (congrFun ((args_w m c).trans (hag c).2) (ix2 k j)).trans (half_apply W c k j)⟩
  have hx : ∀ i, ∃ a : ℝ, X i = (a : EReal) := fun i => by
    have h := pre_x _ _ (hpre 0).1 i
    rw [(hag 0).1] at h
    exact h
  have hw : ∀ i, ∃ a : ℝ, W i = (a : EReal) := fun i => by
    obtain ⟨k, n, rfl⟩ : ∃ (k : Fin 512) (n : Fin 8192), i = ix2 k n := ⟨i 0, i 1, eq_ix2 i⟩
    let c : Dev Cert.KernelIdeal.nD := ⟨n.val / 4096, by have := n.isLt; show _ < 8; omega⟩
    have h := pre_w _ _ (hpre c).2 (ix2 k ⟨n.val % 4096, by omega⟩)
    rw [(hag c).2] at h
    have e := half_apply W c k ⟨n.val % 4096, by omega⟩
    rw [show (⟨4096 * (c.val % 2) + n.val % 4096, by omega⟩ : Fin 8192) = n from Fin.ext (by
      show 4096 * (n.val / 4096 % 2) + n.val % 4096 = n.val; omega)] at e
    obtain ⟨a, ha⟩ := h
    exact ⟨a, e.symm.trans ha⟩
  refine ⟨result X W, ?_, ?_⟩
  · exact (θ_run Cert.KernelIdeal.defs _ _).mono (fun _ h c => ⟨(h.1 c).1.trans (out_eq _ X W hH hx hw c), (h.1 c).2⟩)
      (Cert.KernelIdeal.Soft.run_vals (F := Ideal) m g)
  · exact (θ_run Cert.ReferenceIdeal.defs _ _).mono (fun _ h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim := ⟨Cert.Kernel.Gen.facts, Cert.KernelIdeal.Gen.facts, Cert.ReferenceIdeal.Gen.facts, pre_facts, pre_facts_whole,
  frame_kernel, frame_ideal, fun m g _ => frame_ideal m g trivial, frame_reference, fun m g _ => frame_reference m g trivial,
  trivial, algebraic⟩

end Cert.Proof

end
